-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_s_finite [hPre_s_finite : Cert.Pre_s_finite.Facts] (m : (ℓ : Loc Cert.KernelIdeal.nD Cert.KernelIdeal.τ Cert.KernelIdeal.sig) → Buf (Elt Ideal) ℓ) : Prop :=
  ∀ c : Dev Cert.KernelIdeal.nD,
    (Cert.Pre_s_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_s_finite [hPre_s_finite : Cert.Pre_s_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_s_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_s_finite [hKernelIdeal : Cert.KernelIdeal.Facts] [hPre_s_finite : Cert.Pre_s_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_s_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_s_finite [hReferenceIdeal : Cert.ReferenceIdeal.Facts] [hPre_s_finite : Cert.Pre_s_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_s_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "cn_log2e" .f32 0xC1047383#32 ((-(((11695491 / 67108864) * (Real.log 2))⁻¹) : ℝ) : EReal)

def algebraic_KernelIdeal_ReferenceIdeal_pre_s_finite [hKernelIdeal : Cert.KernelIdeal.Facts] [hReferenceIdeal : Cert.ReferenceIdeal.Facts] [hPre_s_finite : Cert.Pre_s_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_s_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_s_finite : Cert.Pre_s_finite.Facts),
    quiescent_Kernel (hKernel := hKernel)
    ∧ quiescent_KernelIdeal (hKernelIdeal := hKernelIdeal)
    ∧ quiescent_KernelIdeal_pre_s_finite (hKernelIdeal := hKernelIdeal) (hPre_s_finite := hPre_s_finite)
    ∧ quiescent_ReferenceIdeal (hReferenceIdeal := hReferenceIdeal)
    ∧ quiescent_ReferenceIdeal_pre_s_finite (hReferenceIdeal := hReferenceIdeal) (hPre_s_finite := hPre_s_finite)
    ∧ preserves_Kernel_KernelIdeal
    ∧ algebraic_KernelIdeal_ReferenceIdeal_pre_s_finite (hKernelIdeal := hKernelIdeal) (hReferenceIdeal := hReferenceIdeal) (hPre_s_finite := hPre_s_finite)
-- ==== Pre_s_finite.lean ====
abbrev S4x4096x3 : Shape := ⟨3, ![4, 4096, 3]⟩
abbrev S32768x3 : Shape := ⟨2, ![32768, 3]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel

variable [Facts]

def fn {F : FTy → Type} [FloatOps F] (main_arg0 : FVec F S4x4096x3 .f32) (main_arg1 : FVec F S32768x3 .f32) : IVec S_ 1 :=
  let main_v0 : FVec F S32768x3 .f32 := Host.absf main_arg1
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  main_v3
-- ==== Kernel.lean ====
abbrev S4x4096x3 : Shape := ⟨3, ![4, 4096, 3]⟩
abbrev S32768x3 : Shape := ⟨2, ![32768, 3]⟩
abbrev S3x32768 : Shape := ⟨2, ![3, 32768]⟩
abbrev S4x1x32768 : Shape := ⟨3, ![4, 1, 32768]⟩
abbrev S1x4096x3 : Shape := ⟨3, ![1, 4096, 3]⟩
abbrev S3x4096 : Shape := ⟨2, ![3, 4096]⟩
abbrev S1x1x32768 : Shape := ⟨3, ![1, 1, 32768]⟩
abbrev S1x1 : Shape := ⟨2, ![1, 1]⟩
abbrev S4096x5 : Shape := ⟨2, ![4096, 5]⟩
abbrev S4096x3 : Shape := ⟨2, ![4096, 3]⟩
abbrev S3 : Shape := ⟨1, ![3]⟩
abbrev S1x3 : Shape := ⟨2, ![1, 3]⟩
abbrev S1x1x3 : Shape := ⟨3, ![1, 1, 3]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩
abbrev S1x4096 : Shape := ⟨2, ![1, 4096]⟩
abbrev S5x4096 : Shape := ⟨2, ![5, 4096]⟩
abbrev S128x5 : Shape := ⟨2, ![128, 5]⟩
abbrev S128x4096 : Shape := ⟨2, ![128, 4096]⟩
abbrev S1x1x4096 : Shape := ⟨3, ![1, 1, 4096]⟩
abbrev S1x32768 : Shape := ⟨2, ![1, 32768]⟩
abbrev S4x32768 : Shape := ⟨2, ![4, 32768]⟩

abbrev nBuf : Space → Nat
  | .hbm => 5
  | .vmem => 7
  | .smem => 1
  | _ => 0

abbrev bufTy : (tb : Table) → Fin (tcTables nBuf tb) → BufTy
  | .hbm, ⟨0, _⟩ => ⟨S4x4096x3, .f32⟩
  | .hbm, ⟨1, _⟩ => ⟨S32768x3, .f32⟩
  | .hbm, ⟨2, _⟩ => ⟨S3x32768, .f32⟩
  | .hbm, ⟨3, _⟩ => ⟨S4x1x32768, .f32⟩
  | .hbm, ⟨4, _⟩ => ⟨S4x32768, .f32⟩
  | .local _ .vmem, ⟨0, _⟩ => ⟨S1x4096x3, .f32⟩
  | .local _ .vmem, ⟨1, _⟩ => ⟨S1x4096x3, .f32⟩
  | .local _ .vmem, ⟨2, _⟩ => ⟨S3x4096, .f32⟩
  | .local _ .vmem, ⟨3, _⟩ => ⟨S3x4096, .f32⟩
  | .local _ .vmem, ⟨4, _⟩ => ⟨S1x1x32768, .f32⟩
  | .local _ .vmem, ⟨5, _⟩ => ⟨S1x1x32768, .f32⟩
  | .local _ .vmem, ⟨6, _⟩ => ⟨S4096x5, .f32⟩
  | .local _ .smem, ⟨0, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch1 : Ref sig .tc := ⟨.vmem, 6, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c4096_i32 : BitVec 32 := 4096#32
  let v214 : BitVec 32 := Scalar.muli arg1 c4096_i32
  v214
def k0_off1 (i : grid0.Coords) : Fin 3 → Nat :=
  let c0_105 : Index := 0#32
  let c0_106 : Index := 0#32
  let arg1 : BitVec 32 := BitVec.ofNat 32 (i 1).val
  let c4096_i32 : BitVec 32 := 4096#32
  let v214 : BitVec 32 := Scalar.muli arg1 c4096_i32
  let v215 : BitVec 32 := v214
  let v220 : Index := Scalar.indexCast v215
  ![0, 0, v220.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
variable {F : FTy → Type} [FloatOps F] [Named F]
def κ : String → Option EReal := fun
  | "cn_log2e" => some ((-(((11695491 / 67108864) * (Real.log 2))⁻¹) : ℝ) : EReal)
  | _ => none
-- ==== ReferenceIdeal.lean ====
abbrev S4x4096x3 : Shape := ⟨3, ![4, 4096, 3]⟩
abbrev S32768x3 : Shape := ⟨2, ![32768, 3]⟩
abbrev S_ : Shape := ⟨0, ![]⟩
abbrev S4x3 : Shape := ⟨2, ![4, 3]⟩
abbrev S4x1x3 : Shape := ⟨3, ![4, 1, 3]⟩
abbrev S4 : Shape := ⟨1, ![4]⟩
abbrev S4x1x1 : Shape := ⟨3, ![4, 1, 1]⟩
abbrev S32768 : Shape := ⟨1, ![32768]⟩
abbrev S4x4096 : Shape := ⟨2, ![4, 4096]⟩
abbrev S4x4096x32768 : Shape := ⟨3, ![4, 4096, 32768]⟩
abbrev S4x32768x4096 : Shape := ⟨3, ![4, 32768, 4096]⟩
abbrev S1x32768x1 : Shape := ⟨3, ![1, 32768, 1]⟩
abbrev S4x1x4096 : Shape := ⟨3, ![4, 1, 4096]⟩
abbrev S4x1 : Shape := ⟨2, ![4, 1]⟩
abbrev S4x32768 : Shape := ⟨2, ![4, 32768]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S32768x3, .f32⟩
  | .hbm, ⟨2, _⟩ => ⟨S_, .i32⟩
  | .hbm, ⟨3, _⟩ => ⟨S_, .f32⟩
  | .hbm, ⟨4, _⟩ => ⟨S4x3, .f32⟩
  | .hbm, ⟨5, _⟩ => ⟨S4x1x3, .f32⟩
  | .hbm, ⟨6, _⟩ => ⟨S_, .f32⟩
  | .hbm, ⟨7, _⟩ => ⟨S4x1x3, .f32⟩
  | .hbm, ⟨8, _⟩ => ⟨S4x1x3, .f32⟩
  | .hbm, ⟨9, _⟩ => ⟨S4x4096x3, .f32⟩
  | .hbm, ⟨10, _⟩ => ⟨S4x4096x3, .f32⟩
  | .hbm, ⟨11, _⟩ => ⟨S4x4096x3, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x3, .f32⟩
  | .hbm, ⟨17, _⟩ => ⟨S4x3, .f32⟩
  | .hbm, ⟨18, _⟩ => ⟨S4x3, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S4x3, .f32⟩
  | .hbm, ⟨24, _⟩ => ⟨S4x3, .f32⟩
  | .hbm, ⟨25, _⟩ => ⟨S4x3, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4x1x1, .f32⟩
  | .hbm, ⟨36, _⟩ => ⟨S32768x3, .f32⟩
  | .hbm, ⟨37, _⟩ => ⟨S_, .f32⟩
  | .hbm, ⟨38, _⟩ => ⟨S32768, .f32⟩
  | .hbm, ⟨39, _⟩ => ⟨S4x4096x3, .f32⟩
  | .hbm, ⟨40, _⟩ => ⟨S_, .f32⟩
  | .hbm, ⟨41, _⟩ => ⟨S4x4096, .f32⟩
  | .hbm, ⟨42, _⟩ => ⟨S4x4096x32768, .f32⟩
  | .hbm, ⟨43, _⟩ => ⟨S4x32768x4096, .f32⟩
  | .hbm, ⟨44, _⟩ => ⟨S1x32768x1, .f32⟩
  | .hbm, ⟨45, _⟩ => ⟨S4x1x4096, .f32⟩
  | .hbm, ⟨46, _⟩ => ⟨S4x32768x4096, .f32⟩
  | .hbm, ⟨47, _⟩ => ⟨S4x32768x4096, .f32⟩
  | .hbm, ⟨48, _⟩ => ⟨S4x32768x4096, .f32⟩
  | .hbm, ⟨49, _⟩ => ⟨S_, .f32⟩
  | .hbm, ⟨50, _⟩ => ⟨S4x32768x4096, .f32⟩
  | .hbm, ⟨51, _⟩ => ⟨S4x32768x4096, .f32⟩
  | .hbm, ⟨52, _⟩ => ⟨S4x32768x4096, .f32⟩
  | .hbm, ⟨53, _⟩ => ⟨S4x32768x4096, .f32⟩
  | .hbm, ⟨54, _⟩ => ⟨S4x1x1, .f32⟩
  | .hbm, ⟨55, _⟩ => ⟨S_, .f32⟩
  | .hbm, ⟨56, _⟩ => ⟨S4x1x1, .f32⟩
  | .hbm, ⟨57, _⟩ => ⟨S4x1x1, .f32⟩
  | .hbm, ⟨58, _⟩ => ⟨S4x32768x4096, .f32⟩
  | .hbm, ⟨59, _⟩ => ⟨S4x32768x4096, .f32⟩
  | .hbm, ⟨60, _⟩ => ⟨S4x32768x4096, .f32⟩
  | .hbm, ⟨61, _⟩ => ⟨S4x1, .f32⟩
  | .hbm, ⟨62, _⟩ => ⟨S_, .f32⟩
  | .hbm, ⟨63, _⟩ => ⟨S4x1, .f32⟩
  | .hbm, ⟨64, _⟩ => ⟨S4x1, .f32⟩
  | .hbm, ⟨65, _⟩ => ⟨S_, .f32⟩
  | .hbm, ⟨66, _⟩ => ⟨S4x1, .f32⟩
  | .hbm, ⟨67, _⟩ => ⟨S4x1, .f32⟩
  | .hbm, ⟨68, _⟩ => ⟨S_, .f32⟩
  | .hbm, ⟨69, _⟩ => ⟨S4x32768, .f32⟩
  | .hbm, ⟨70, _⟩ => ⟨S_, .f32⟩
  | .hbm, ⟨71, _⟩ => ⟨S4x32768, .f32⟩
  | .hbm, ⟨72, _⟩ => ⟨S4x32768, .f32⟩
  | .hbm, ⟨73, _⟩ => ⟨S4x32768, .f32⟩
  | .hbm, ⟨74, _⟩ => ⟨S4x32768, .f32⟩
  | .hbm, ⟨75, _⟩ => ⟨S_, .f32⟩
  | .hbm, ⟨76, _⟩ => ⟨S4, .f32⟩
  | .hbm, ⟨77, _⟩ => ⟨S4x1, .f32⟩
  | .hbm, ⟨78, _⟩ => ⟨S_, .f32⟩
  | .hbm, ⟨79, _⟩ => ⟨S_, .f32⟩
  | .hbm, ⟨80, _⟩ => ⟨S4x1, .f32⟩
  | .hbm, ⟨81, _⟩ => ⟨S4x1, .f32⟩
  | .hbm, ⟨82, _⟩ => ⟨S4x32768, .f32⟩
  | .hbm, ⟨83, _⟩ => ⟨S4x32768, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_cst_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_cst_1 : Ref sig .tc := ⟨.hbm, 13, rfl⟩
abbrev main_call0_call0_v8 : Ref sig .tc := ⟨.hbm, 14, rfl⟩
abbrev main_call0_call0_cst_2 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_cst_3 : Ref sig .tc := ⟨.hbm, 19, rfl⟩
abbrev main_call0_call0_v12 : Ref sig .tc := ⟨.hbm, 20, rfl⟩
abbrev main_call0_call0_cst_4 : Ref sig .tc := ⟨.hbm, 21, rfl⟩
abbrev main_call0_call0_call0_v0 : Ref sig .tc := ⟨.hbm, 22, rfl⟩
abbrev main_call0_call0_call0_v1 : Ref sig .tc := ⟨.hbm, 23, rfl⟩
abbrev main_call0_v0 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_2 : Ref sig .tc := ⟨.hbm, 37, rfl⟩
abbrev main_v7 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_6 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_v31 : Ref sig .tc := ⟨.hbm, 67, rfl⟩
abbrev main_cst_8 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_10 : Ref sig .tc := ⟨.hbm, 75, rfl⟩
abbrev main_v37 : Ref sig .tc := ⟨.hbm, 76, rfl⟩
abbrev main_v38 : Ref sig .tc := ⟨.hbm, 77, rfl⟩
abbrev main_cst_11 : Ref sig .tc := ⟨.hbm, 78, rfl⟩
abbrev main_call2_v0 : Ref sig .tc := ⟨.hbm, 79, rfl⟩
abbrev main_call2_v1 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.WritesUnit

/-! One call of the kernel's body, run on whole staging buffers.

The body is the first branch (`setup`, taken at the first tile of a batch: it stores the bandwidth and the scaled
T-coordinates) followed by the rest, which reads those two scratch buffers, stores one tile of 4096 densities, and at the
last tile of a batch normalises the whole row. Each of the two is run once, and the result is said by values. -/

@[expose] public section

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F] [Named F]

local notation "𝕄" => MT nD τ sig Unit (Elt F) ℕ (UR sig nD τ) ℕ

/-- The tile is the first of its batch, as the body tests it. -/
abbrev isFirst (i : grid0.Coords) : Prop :=
  (Scalar.cmpi .ne (Scalar.extui (Scalar.cmpi .eq (BitVec.ofNat 32 (i 1).val) 0#32)) 0#32) = 1#1
/-- The tile is the last of its batch, as the body tests it. -/
abbrev isLast (i : grid0.Coords) : Prop :=
  (Scalar.cmpi .ne (Scalar.extui (Scalar.cmpi .eq (BitVec.ofNat 32 (i 1).val) 7#32)) 0#32) = 1#1

/-! ## The values -/

/-- The rows `128 k … 128 k + 127` of the scaled T-coordinates. -/
def rowRect (k : Fin 32) : Rect S4096x5 :=
  Rect.unit (s := S4096x5) ![128 * k.val, 0] S128x5.size (by
    have := k.isLt
    intro x; fin_cases x
    · show 128 * k.val + 128 ≤ 4096; omega
    · exact Nat.le_refl 5)
/-- Those rows, loaded. -/
def rows (a : Vec F S4096x5 .f32) (k : Fin 32) : Vec F S128x5 .f32 := ld a (rowRect k)

/-- The scaled T-coordinates the first branch stores: three coordinate columns, the squared-norm column, a column of ones. -/
def setA (x : Vec F S1x4096x3 .f32) : Vec F S4096x5 .f32 := fun j =>
  if h : (j 1).val < 3 then k0_pay6 x (fun a => ⟨((![(j 0).val, (j 1).val] : Fin 2 → ℕ) a), by
      fin_cases a
      · exact (j 0).isLt
      · exact h⟩)
  else if (j 1).val < 4 then k0_pay7 x (fun a => ⟨((![(j 0).val, 0] : Fin 2 → ℕ) a), by
      fin_cases a
      · exact (j 0).isLt
      · exact Nat.one_pos⟩)
  else Scalar.ofBits .f32 0x3F800000#32

/-- The sum over the 4096 T-points, accumulated 128 at a time. -/
def accum (g : Elt F .f32) (s : Vec F S3x4096 .f32) (a : Fin 32 → Vec F S128x5 .f32) : FVec F S1x4096 .f32 :=
  let r := k0_pay13 g s
  let p2 := k0_pay14 g s (a 0) (a 1)
  let q2 := k0_pay15 g s (a 2)
  let p3 := k0_pay16 r p2 q2 (a 3) (a 4) (a 5) (a 6) (a 7)
  let q3 := k0_pay17 r (a 8)
  let p4 := k0_pay18 r p3 q3 (a 9) (a 10) (a 11) (a 12) (a 13)
  let q4 := k0_pay19 r (a 14)
  let p5 := k0_pay20 r p4 q4 (a 15) (a 16) (a 17) (a 18) (a 19)
  let q5 := k0_pay21 r (a 20)
  let p6 := k0_pay22 r p5 q5 (a 21) (a 22) (a 23) (a 24) (a 25)
  let q6 := k0_pay23 r (a 26)
  k0_pay24 r p6 q6 (a 27) (a 28) (a 29) (a 30) (a 31)

/-- The tile of densities, from the loads it is computed of. -/
def tileOf (g : Elt F .f32) (s : Vec F S3x4096 .f32) (a : Fin 32 → Vec F S128x5 .f32) : FVec F S1x1x4096 .f32 :=
  k0_pay1 (accum g s a) (k0_pay25 g) (k0_pay26 (k0_pay12 g s))

/-- The tile of densities the body stores. -/
def tile (g : Elt F .f32) (s : Vec F S3x4096 .f32) (a : Vec F S4096x5 .f32) : FVec F S1x1x4096 .f32 := tileOf g s (rows a)

/-- Where the tile goes in the row of a batch. -/
abbrev tileRect (i : grid0.Coords) : Rect S1x1x32768 :=
  Rect.unit (s := S1x1x32768) (k0_off1 i) S1x1x4096.size (k0_off1_inb i)

/-- `Y` is the row `X` with the tile `v` stored at point `i`. -/
def Stored (i : grid0.Coords) (v : FVec F S1x1x4096 .f32) (X Y : Vec F S1x1x32768 .f32) : Prop :=
  (∀ x, Y ((tileRect i).emb x) = v x) ∧ ∀ y, y ∉ (tileRect i).set → Y y = X y

/-! ## The body in two -/

/-- The first branch. -/
def setup (i : grid0.Coords) (arg2 : Memref sig .tc .vmem S1x4096x3 .f32) (harg2 : arg2.IsWhole) (arg3 : Memref sig .tc .vmem S3x4096 .f32) (harg3 : arg3.IsWhole) (arg4 : Memref sig .tc .vmem S1x1x32768 .f32) (harg4 : arg4.IsWhole) (arg5 : Memref sig .tc .smem S1x1 .f32) (harg5 : arg5.IsWhole) (arg6 : Memref sig .tc .vmem S4096x5 .f32) (harg6 : arg6.IsWhole) :
    Prog (TpuEff nD τ sig (Elt F) Λ₀ .tc) PUnit :=
  if isFirst i then do
    let one : F .f32 ← k0_part1 i arg2 harg2 arg3 harg3 arg4 harg4 arg5 harg5 arg6 harg6
    let _ : Vec F S4096x1 .f32 ← Prog.lift (.load arg6 (Rect.unit (s := S4096x5) ![0, 4] S4096x1.size inb_S4096x5_S4096x1_0_4).toLoadRect (View.loadsAt_vmem h_S4096x1))
    Prog.lift (.store arg6 (Rect.unit (s := S4096x5) ![0, 4] S4096x1.size inb_S4096x5_S4096x1_0_4) (k0_pay8 one) Finset.univ (View.stores_vmem_bits_univ h_S4096x1 rfl) (.inl rfl))
    pure ⟨⟩
  else pure ⟨⟩

/-- What `k0_part2` does after its first branch. -/
def loads2 (i : grid0.Coords) (arg2 : Memref sig .tc .vmem S1x4096x3 .f32) (harg2 : arg2.IsWhole) (arg3 : Memref sig .tc .vmem S3x4096 .f32) (harg3 : arg3.IsWhole) (arg4 : Memref sig .tc .vmem S1x1x32768 .f32) (harg4 : arg4.IsWhole) (arg5 : Memref sig .tc .smem S1x1 .f32) (harg5 : arg5.IsWhole) (arg6 : Memref sig .tc .vmem S4096x5 .f32) (harg6 : arg6.IsWhole) :
    Prog (TpuEff nD τ sig (Elt F) Λ₀ .tc) (Σ' (arg1 : BitVec 32) (v3 : Elt F .f32) (v15 : FVec F S1x4096 .f32) (v17 : FVec F S5x4096 .f32) (v30 : FVec F S1x4096 .f32), FVec F S4096 .f32) := do
  let g : Elt F .f32 ← smemLoad arg5 (Rect.unit (s := S1x1) ![0, 0] S1x1.size inb_S1x1_S1x1_0_0) numel1_S1x1 rfl
  let s : Vec F S3x4096 .f32 ← Prog.lift (.load arg3 (Rect.unit (s := S3x4096) ![0, 0] S3x4096.size inb_S3x4096_S3x4096_0_0).toLoadRect (View.loadsAt_vmem h_S3x4096))
  let r0 : Vec F S128x5 .f32 ← Prog.lift (.load arg6 (Rect.unit (s := S4096x5) ![0, 0] S128x5.size inb_S4096x5_S128x5_0_0).toLoadRect (View.loadsAt_vmem h_S128x5))
  let r1 : Vec F S128x5 .f32 ← Prog.lift (.load arg6 (Rect.unit (s := S4096x5) ![128, 0] S128x5.size inb_S4096x5_S128x5_128_0).toLoadRect (View.loadsAt_vmem h_S128x5))
  let r2 : Vec F S128x5 .f32 ← Prog.lift (.load arg6 (Rect.unit (s := S4096x5) ![256, 0] S128x5.size inb_S4096x5_S128x5_256_0).toLoadRect (View.loadsAt_vmem h_S128x5))
  pure ⟨BitVec.ofNat 32 (i 1).val, g, k0_pay12 g s, k0_pay13 g s, k0_pay14 g s r0 r1, k0_pay15 g s r2⟩

/-- The body after its first branch. -/
def rest (i : grid0.Coords) (arg2 : Memref sig .tc .vmem S1x4096x3 .f32) (harg2 : arg2.IsWhole) (arg3 : Memref sig .tc .vmem S3x4096 .f32) (harg3 : arg3.IsWhole) (arg4 : Memref sig .tc .vmem S1x1x32768 .f32) (harg4 : arg4.IsWhole) (arg5 : Memref sig .tc .smem S1x1 .f32) (harg5 : arg5.IsWhole) (arg6 : Memref sig .tc .vmem S4096x5 .f32) (harg6 : arg6.IsWhole) :
    Prog (TpuEff nD τ sig (Elt F) Λ₀ .tc) PUnit := do
  let ⟨arg1, v3, v15, v17, v30, v34⟩ ← loads2 i arg2 harg2 arg3 harg3 arg4 harg4 arg5 harg5 arg6 harg6
  let ⟨v66, v70⟩ ← k0_part3 i arg2 harg2 arg3 harg3 arg4 harg4 arg5 harg5 arg6 harg6 v17 v30 v34
  let ⟨v102, v106⟩ ← k0_part4 i arg2 harg2 arg3 harg3 arg4 harg4 arg5 harg5 arg6 harg6 v17 v66 v70
  let ⟨v138, v142⟩ ← k0_part5 i arg2 harg2 arg3 harg3 arg4 harg4 arg5 harg5 arg6 harg6 v17 v102 v106
  let ⟨v174, v178⟩ ← k0_part6 i arg2 harg2 arg3 harg3 arg4 harg4 arg5 harg5 arg6 harg6 v17 v138 v142
  let ⟨v210, v213, v215, v216⟩ ← k0_part7 i arg2 harg2 arg3 harg3 arg4 harg4 arg5 harg5 arg6 harg6 arg1 v3 v15 v17 v174 v178
  let _ : Vec F S1x1x4096 .f32 ← Prog.lift (.load arg4 (tileRect i).toLoadRect (View.loadsAt_vmem h_S1x1x4096))
  Prog.lift (.store arg4 (tileRect i) (k0_pay1 v210 v213 v216) Finset.univ (View.stores_vmem_bits_univ h_S1x1x4096 rfl) (.inl rfl))
  let last : BitVec 1 := Scalar.cmpi .ne (Scalar.extui (Scalar.cmpi .eq arg1 7#32)) 0#32
  if last = 1#1 then do
    let row : Vec F S1x1x32768 .f32 ← Prog.lift (.load arg4 (Rect.unit (s := S1x1x32768) ![0, 0, 0] S1x1x32768.size inb_S1x1x32768_S1x1x32768_0_0_0).toLoadRect (View.loadsAt_vmem h_S1x1x32768))
    let _ : Vec F S1x1x32768 .f32 ← Prog.lift (.load arg4 (Rect.unit (s := S1x1x32768) ![0, 0, 0] S1x1x32768.size inb_S1x1x32768_S1x1x32768_0_0_0).toLoadRect (View.loadsAt_vmem h_S1x1x32768))
    Prog.lift (.store arg4 (Rect.unit (s := S1x1x32768) ![0, 0, 0] S1x1x32768.size inb_S1x1x32768_S1x1x32768_0_0_0) (k0_pay2 row) Finset.univ (View.stores_vmem_bits_univ h_S1x1x32768 rfl) (.inl rfl))
    pure ⟨⟩
  else pure ⟨⟩

set_option maxRecDepth 65536 in
theorem part2_eq : k0_part2 (F := F) = fun i arg2 harg2 arg3 harg3 arg4 harg4 arg5 harg5 arg6 harg6 =>
    setup i arg2 harg2 arg3 harg3 arg4 harg4 arg5 harg5 arg6 harg6 >>= fun _ =>
      loads2 i arg2 harg2 arg3 harg3 arg4 harg4 arg5 harg5 arg6 harg6 := by
  rw [k0_part2_eq_skeleton]
  funext i arg2 harg2 arg3 harg3 arg4 harg4 arg5 harg5 arg6 harg6
  unfold k0_part2_skel setup
  by_cases h : isFirst i
  · rw [if_pos h]; simp only [dif_pos h, bind_assoc, pure_bind]; rfl
  · rw [if_neg h]; simp only [dif_neg h, bind_assoc, pure_bind]; rfl

/-- The three stores of the first branch cover the second scratch buffer, column by column. -/
theorem read_setA {κ : Kind} {sp : Space} (v : View sig κ sp S4096x5 .f32) (f : v.ty.Contents (Elt F)) (x : Vec F S1x4096x3 .f32)
    (i0 : ∀ a, (![0, 0] : Fin 2 → ℕ) a + S4096x3.size a ≤ S4096x5.size a)
    (i3 : ∀ a, (![0, 3] : Fin 2 → ℕ) a + S4096x1.size a ≤ S4096x5.size a)
    (i4 : ∀ a, (![0, 4] : Fin 2 → ℕ) a + (![4096, 1] : Fin 2 → ℕ) a ≤ S4096x5.size a)
    (one : F .f32) (hone : one = Scalar.ofBits .f32 0x3F800000#32) :
    v.read (Elt F) (v.writes (Elt F) f
      [⟨Rect.unit (s := S4096x5) ![0, 4] ![4096, 1] i4, k0_pay8 one⟩,
       ⟨Rect.unit (s := S4096x5) ![0, 3] S4096x1.size i3, k0_pay7 x⟩,
       ⟨Rect.unit (s := S4096x5) ![0, 0] S4096x3.size i0, k0_pay6 x⟩]) = setA x := by
  subst hone
  funext j
  have hj : (j 1).val < 5 := (j 1).isLt
  unfold setA
  by_cases h3 : (j 1).val < 3
  · rw [dif_pos h3, View.read_writes_cons_unit_of_not_mem v f i4 _ _ j rfl 1 (Or.inl (show (j 1).val < 4 by omega)),
      View.read_writes_cons_unit_of_not_mem v f i3 _ _ j rfl 1 (Or.inl (show (j 1).val < 3 by omega))]
    refine View.read_writes_cons_unit_of_mem v f i0 _ _ j _ rfl fun a => ?_
    fin_cases a
    · show (j 0).val = 0 + (j 0).val; omega
    · show (j 1).val = 0 + (j 1).val; omega
  · by_cases h4 : (j 1).val < 4
    · rw [dif_neg h3, if_pos h4, View.read_writes_cons_unit_of_not_mem v f i4 _ _ j rfl 1 (Or.inl (show (j 1).val < 4 by omega))]
      refine View.read_writes_cons_unit_of_mem v f i3 _ _ j _ rfl fun a => ?_
      fin_cases a
      · show (j 0).val = 0 + (j 0).val; omega
      · show (j 1).val = 3 + 0; omega
    · rw [dif_neg h3, if_neg h4]
      refine View.read_writes_cons_unit_of_mem v f i4 (k0_pay8 _) _ j (fun a => ⟨((![(j 0).val, 0] : Fin 2 → ℕ) a), by
        fin_cases a
        · exact (j 0).isLt
        · exact Nat.one_pos⟩) rfl fun a => ?_
      fin_cases a
      · show (j 0).val = 0 + (j 0).val; omega
      · show (j 1).val = 4 + 0; omega

/-- The body is the first branch, then the rest. -/
theorem body_eq : cc0__histogram_kernel (F := F) = fun i arg2 harg2 arg3 harg3 arg4 harg4 arg5 harg5 arg6 harg6 =>
    setup i arg2 harg2 arg3 harg3 arg4 harg4 arg5 harg5 arg6 harg6 >>= fun _ =>
      rest i arg2 harg2 arg3 harg3 arg4 harg4 arg5 harg5 arg6 harg6 := by
  rw [cc0__histogram_kernel_eq_skeleton]
  funext i arg2 harg2 arg3 harg3 arg4 harg4 arg5 harg5 arg6 harg6
  unfold cc0__histogram_kernel_skel rest
  rw [part2_eq, bind_assoc]
  rfl

set_option maxHeartbeats 1000000 in
/-- The first branch, taken: the scratch buffers end at the bandwidth and at the scaled T-coordinates. -/
theorem setup_first (c : Dev nD) (i : grid0.Coords) (arg2 : Memref sig .tc .vmem S1x4096x3 .f32) (harg2 : arg2.IsWhole) (arg3 : Memref sig .tc .vmem S3x4096 .f32) (harg3 : arg3.IsWhole) (arg4 : Memref sig .tc .vmem S1x1x32768 .f32) (harg4 : arg4.IsWhole) (arg5 : Memref sig .tc .smem S1x1 .f32) (harg5 : arg5.IsWhole) (arg6 : Memref sig .tc .vmem S4096x5 .f32) (harg6 : arg6.IsWhole) (hc0 : isFirst i)
    (x0 : Vec F S1x4096x3 .f32) (E : Set ℕ) (K : PUnit → sProp 𝕄) :
    iprop(owns (c : Thread nD τ) arg2 fullShare x0 ∗ (∃ d, owns (c : Thread nD τ) arg5 fullShare d) ∗ (∃ d, owns (c : Thread nD τ) arg6 fullShare d)
        ∗ (iprop(owns (c : Thread nD τ) arg2 fullShare x0 ∗ owns (c : Thread nD τ) arg5 fullShare (fun _ => k0_pay4 x0) ∗ owns (c : Thread nD τ) arg6 fullShare (setA x0)) -∗ K ⟨⟩))
      ⊢ wp frame (wpE (defs₀ (F := F)) Variants.none c none) E (setup i arg2 harg2 arg3 harg3 arg4 harg4 arg5 harg5 arg6 harg6) K := by
  unfold setup
  simp only [k0_part1_eq_skeleton]
  unfold owns
  iintro ⟨⟨%f0, %hf0, H0⟩, ⟨%ds0, %fs0, -, HS0⟩, ⟨%ds1, %fs1, -, HS1⟩, Hk⟩
  obtain rfl := harg2.eq_unread hf0
  sl_exec (disch := first | sl_exact hc0)
  sl_step
  iapply Hk
  have hx : View.readAt (Elt F) arg2.view (Rect.unit ![0, 0, 0] S1x4096x3.size inb_S1x4096x3_S1x4096x3_0_0_0).toLoadRect (harg2.unread x0) = x0 :=
    (View.readAt_full arg2.view (harg2.unread x0) inb_S1x4096x3_S1x4096x3_0_0_0).trans (harg2.read_unread x0)
  isplitl [H0]
  · iexists _; isplitr
    · ipureintro; exact harg2.read_unread _
    · iexact H0
  isplitl [HS0]
  · iexists _; isplitr
    swap
    · iexact HS0
    ipureintro
    rw [hx]; exact View.read_writes_full arg5.view fs0 _ _ _
  · iexists _; isplitr
    swap
    · iexact HS1
    ipureintro
    rw [hx]
    exact read_setA arg6.view fs1 x0 _ _ _ _ rfl

/-- The first branch, not taken. -/
theorem setup_later (c : Dev nD) (i : grid0.Coords) (arg2 : Memref sig .tc .vmem S1x4096x3 .f32) (harg2 : arg2.IsWhole) (arg3 : Memref sig .tc .vmem S3x4096 .f32) (harg3 : arg3.IsWhole) (arg4 : Memref sig .tc .vmem S1x1x32768 .f32) (harg4 : arg4.IsWhole) (arg5 : Memref sig .tc .smem S1x1 .f32) (harg5 : arg5.IsWhole) (arg6 : Memref sig .tc .vmem S4096x5 .f32) (harg6 : arg6.IsWhole) (hc0 : ¬ isFirst i) (E : Set ℕ) (K : PUnit → sProp 𝕄) :
    K ⟨⟩ ⊢ wp frame (wpE (defs₀ (F := F)) Variants.none c none) E (setup i arg2 harg2 arg3 harg3 arg4 harg4 arg5 harg5 arg6 harg6) K := by
  unfold setup; rw [if_neg hc0]; iintro Hk; sl_step; iexact Hk

/-! ## The rest of the body -/

/-- What the body loads of the whole buffers it reads. -/
theorem tileOf_loads {arg3 : Memref sig .tc .vmem S3x4096 .f32} (harg3 : arg3.IsWhole) {arg5 : Memref sig .tc .smem S1x1 .f32} (harg5 : arg5.IsWhole)
    {arg6 : Memref sig .tc .vmem S4096x5 .f32} (harg6 : arg6.IsWhole) (g : Elt F .f32) (s : Vec F S3x4096 .f32) (a : Vec F S4096x5 .f32) (x) :
    tileOf (View.readAt (Elt F) arg5.view (Rect.unit (s := S1x1) ![0, 0] S1x1.size inb_S1x1_S1x1_0_0).toLoadRect (harg5.unread fun _ => g) x)
      (View.readAt (Elt F) arg3.view (Rect.unit (s := S3x4096) ![0, 0] S3x4096.size inb_S3x4096_S3x4096_0_0).toLoadRect (harg3.unread s))
      (fun k => View.readAt (Elt F) arg6.view (rowRect k).toLoadRect (harg6.unread a)) = tile g s a := by
  have e5 : View.readAt (Elt F) arg5.view (Rect.unit (s := S1x1) ![0, 0] S1x1.size inb_S1x1_S1x1_0_0).toLoadRect (harg5.unread fun _ => g) x = g := by
    rw [View.readAt_eq_ld, harg5.read_unread]
  have e3 : View.readAt (Elt F) arg3.view (Rect.unit (s := S3x4096) ![0, 0] S3x4096.size inb_S3x4096_S3x4096_0_0).toLoadRect (harg3.unread s) = s :=
    (View.readAt_full arg3.view (harg3.unread s) inb_S3x4096_S3x4096_0_0).trans (harg3.read_unread s)
  have e6 : (fun k => View.readAt (Elt F) arg6.view (rowRect k).toLoadRect (harg6.unread a)) = rows a := by
    funext k; rw [View.readAt_eq_ld, harg6.read_unread]; rfl
  rw [e5, e3, e6]; rfl

/-- A store of the tile into the row. -/
theorem stored_writes {arg4 : Memref sig .tc .vmem S1x1x32768 .f32} (harg4 : arg4.IsWhole) (i : grid0.Coords) (X : Vec F S1x1x32768 .f32)
    (v : FVec F S1x1x4096 .f32) :
    Stored i v X (arg4.view.read (Elt F) (arg4.view.writes (Elt F) (harg4.unread X) [⟨tileRect i, v⟩])) := by
  refine ⟨fun x => View.read_writes_cons_emb _ _ _ _ _ x, fun y hy => ?_⟩
  rw [View.read_writes_apply_of_forall_not_mem, harg4.read_unread]
  intro p hp
  rw [List.mem_singleton.mp hp]; exact hy

set_option maxHeartbeats 1000000 in
/-- At a tile that is not the last of its batch: the row has the tile stored. -/
theorem rest_inner (c : Dev nD) (i : grid0.Coords) (arg2 : Memref sig .tc .vmem S1x4096x3 .f32) (harg2 : arg2.IsWhole) (arg3 : Memref sig .tc .vmem S3x4096 .f32) (harg3 : arg3.IsWhole) (arg4 : Memref sig .tc .vmem S1x1x32768 .f32) (harg4 : arg4.IsWhole) (arg5 : Memref sig .tc .smem S1x1 .f32) (harg5 : arg5.IsWhole) (arg6 : Memref sig .tc .vmem S4096x5 .f32) (harg6 : arg6.IsWhole) (hc1 : ¬ isLast i)
    (s : Vec F S3x4096 .f32) (X : Vec F S1x1x32768 .f32) (g : Elt F .f32) (a : Vec F S4096x5 .f32) (E : Set ℕ) (K : PUnit → sProp 𝕄) :
    iprop(owns (c : Thread nD τ) arg3 fullShare s ∗ owns (c : Thread nD τ) arg4 fullShare X ∗ owns (c : Thread nD τ) arg5 fullShare (fun _ => g) ∗ owns (c : Thread nD τ) arg6 fullShare a
        ∗ (iprop(owns (c : Thread nD τ) arg3 fullShare s ∗ (∃ Y, iprop(⌜Stored i (tile g s a) X Y⌝ ∗ owns (c : Thread nD τ) arg4 fullShare Y)) ∗ owns (c : Thread nD τ) arg5 fullShare (fun _ => g) ∗ owns (c : Thread nD τ) arg6 fullShare a) -∗ K ⟨⟩))
      ⊢ wp frame (wpE (defs₀ (F := F)) Variants.none c none) E (rest i arg2 harg2 arg3 harg3 arg4 harg4 arg5 harg5 arg6 harg6) K := by
  unfold rest loads2
  simp only [k0_part3_eq_skeleton, k0_part4_eq_skeleton, k0_part5_eq_skeleton, k0_part6_eq_skeleton, k0_part7_eq_skeleton]
  unfold owns
  iintro ⟨⟨%f1, %hf1, H1⟩, ⟨%f2, %hf2, H2⟩, ⟨%fs0, %hs0, HS0⟩, ⟨%fs1, %hs1, HS1⟩, Hk⟩
  obtain rfl := harg3.eq_unread hf1; obtain rfl := harg4.eq_unread hf2
  obtain rfl := harg5.eq_unread hs0; obtain rfl := harg6.eq_unread hs1
  sl_exec (disch := first | sl_exact hc1)
  sl_step
  iapply Hk
  isplitl [H1]
  · iexists _; isplitr
    · ipureintro; exact harg3.read_unread _
    · iexact H1
  isplitl [H2]
  · iexists _; isplitr
    · ipureintro; exact stored_writes harg4 i X (tile g s a)
    iexists _; isplitr
    · ipureintro; rfl
    have hv := tileOf_loads harg3 harg5 harg6 g s a (Shape.Idx.first (numel1_S1x1.symm ▸ Nat.one_pos))
    rw [← hv]
    iexact H2
  isplitl [HS0]
  · iexists _; isplitr
    · ipureintro; exact harg5.read_unread _
    · iexact HS0
  · iexists _; isplitr
    · ipureintro; exact harg6.read_unread _
    · iexact HS1

set_option maxHeartbeats 1000000 in
/-- At a tile that is the last of its batch: the row has the tile stored, and is then normalised. -/
theorem rest_last (c : Dev nD) (i : grid0.Coords) (arg2 : Memref sig .tc .vmem S1x4096x3 .f32) (harg2 : arg2.IsWhole) (arg3 : Memref sig .tc .vmem S3x4096 .f32) (harg3 : arg3.IsWhole) (arg4 : Memref sig .tc .vmem S1x1x32768 .f32) (harg4 : arg4.IsWhole) (arg5 : Memref sig .tc .smem S1x1 .f32) (harg5 : arg5.IsWhole) (arg6 : Memref sig .tc .vmem S4096x5 .f32) (harg6 : arg6.IsWhole) (hc1 : isLast i)
    (s : Vec F S3x4096 .f32) (X : Vec F S1x1x32768 .f32) (g : Elt F .f32) (a : Vec F S4096x5 .f32) (E : Set ℕ) (K : PUnit → sProp 𝕄) :
    iprop(owns (c : Thread nD τ) arg3 fullShare s ∗ owns (c : Thread nD τ) arg4 fullShare X ∗ owns (c : Thread nD τ) arg5 fullShare (fun _ => g) ∗ owns (c : Thread nD τ) arg6 fullShare a
        ∗ (iprop(owns (c : Thread nD τ) arg3 fullShare s ∗ (∃ Y, iprop(⌜Stored i (tile g s a) X Y⌝ ∗ owns (c : Thread nD τ) arg4 fullShare (k0_pay2 Y))) ∗ owns (c : Thread nD τ) arg5 fullShare (fun _ => g) ∗ owns (c : Thread nD τ) arg6 fullShare a) -∗ K ⟨⟩))
      ⊢ wp frame (wpE (defs₀ (F := F)) Variants.none c none) E (rest i arg2 harg2 arg3 harg3 arg4 harg4 arg5 harg5 arg6 harg6) K := by
  unfold rest loads2
  simp only [k0_part3_eq_skeleton, k0_part4_eq_skeleton, k0_part5_eq_skeleton, k0_part6_eq_skeleton, k0_part7_eq_skeleton]
  unfold owns
  iintro ⟨⟨%f1, %hf1, H1⟩, ⟨%f2, %hf2, H2⟩, ⟨%fs0, %hs0, HS0⟩, ⟨%fs1, %hs1, HS1⟩, Hk⟩
  obtain rfl := harg3.eq_unread hf1; obtain rfl := harg4.eq_unread hf2
  obtain rfl := harg5.eq_unread hs0; obtain rfl := harg6.eq_unread hs1
  sl_exec (disch := first | sl_exact hc1)
  sl_step
  iapply Hk
  isplitl [H1]
  · iexists _; isplitr
    · ipureintro; exact harg3.read_unread _
    · iexact H1
  isplitl [H2]
  · iexists _; isplitr
    · ipureintro; exact stored_writes harg4 i X (tile g s a)
    iexists _; isplitr
    swap
    · iexact H2
    ipureintro
    have hv := tileOf_loads harg3 harg5 harg6 g s a (Shape.Idx.first (numel1_S1x1.symm ▸ Nat.one_pos))
    refine (View.read_writes_full arg4.view (harg4.unread X) inb_S1x1x32768_S1x1x32768_0_0_0 _ _).trans (congrArg k0_pay2 ?_)
    rw [← hv]
    exact View.readAt_full arg4.view _ inb_S1x1x32768_S1x1x32768_0_0_0
  isplitl [HS0]
  · iexists _; isplitr
    · ipureintro; exact harg5.read_unread _
    · iexact HS0
  · iexists _; isplitr
    · ipureintro; exact harg6.read_unread _
    · iexact HS1

end Cert.KernelIdeal.Hist

end
-- ==== Proof.Steps.lean ====
module

public import proofs.«01_k».proof.Proof.Body
public import Idealize.ShloMosaic.Lib.Pipeline.DatRel
public import Idealize.ShloMosaic.Lib.Pipeline.ArrRel
public import Idealize.ShloMosaic.Lib.Claim

/-! The body at each point of the grid.

Point `n` is tile `n % 8` of batch `n / 8`. Within a batch the two scratch buffers hold the bandwidth and the scaled
T-coordinates of that batch, and after tile `k` the first `4096 (k + 1)` entries of the row are the batch's densities; the last
tile leaves the normalised row. This is what the proof data say of the output window, as a relation. -/

@[expose] public section

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

/-- The grid's point number `n`. -/
def pt (n : ℕ) : Fin cfg0.N := ⟨n % 32, Nat.lt_of_lt_of_eq (Nat.mod_lt _ (by norm_num)) (show (32 : ℕ) = cfg0.N from N_0.symm)⟩

theorem point_lt (t : Fin cfg0.N) : t.val < 32 := Nat.lt_of_lt_of_eq t.isLt N_0

theorem pt_val (t : Fin cfg0.N) : pt t.val = t := Fin.ext (Nat.mod_eq_of_lt (point_lt t))

theorem coord_tile (t : Fin cfg0.N) : (grid0.coords t 1).val = t.val % 8 := by
  have h : ∀ t : Fin grid0.N, (grid0.coords t 1).val = t.val / 1 % 8 := fun t => Pipeline.Grid.coords_val t 1 (by decide) rfl
  rw [h t, Nat.div_one]

theorem coord_batch (t : Fin cfg0.N) : (grid0.coords t 0).val = t.val / 8 := by
  have h : ∀ t : Fin grid0.N, (grid0.coords t 0).val = t.val / 8 % 4 := fun t => Pipeline.Grid.coords_val t 0 (by decide) rfl
  have := point_lt t
  rw [h t, Nat.mod_eq_of_lt (by omega)]

theorem isFirst_iff (t : Fin cfg0.N) : isFirst (grid0.coords t) ↔ t.val % 8 = 0 := by
  have ht := point_lt t
  simp only [isFirst, coord_tile]
  word_cmp

theorem isLast_iff (t : Fin cfg0.N) : isLast (grid0.coords t) ↔ t.val % 8 = 7 := by
  have ht := point_lt t
  simp only [isLast, coord_tile]
  word_cmp

/-- The tile goes at entry `4096 (n % 8)` of the row. -/
theorem tile_off (t : Fin cfg0.N) : k0_off1 (grid0.coords t) = ![0, 0, 4096 * (t.val % 8)] := by
  have h8 : t.val % 8 < 8 := Nat.mod_lt _ (by norm_num)
  have e : (Scalar.muli (BitVec.ofNat 32 (grid0.coords t 1).val) 4096#32).toNat = 4096 * (t.val % 8) := by
    rw [coord_tile]
    show (BitVec.ofNat 32 (t.val % 8) * 4096#32).toNat = _
    rw [BitVec.toNat_mul, BitVec.toNat_ofNat, BitVec.toNat_ofNat]
    omega
  funext a
  fin_cases a
  · rfl
  · rfl
  · exact e

/-! ## What the run computes -/

/-- The T-points of batch `b`. -/
def batchT (c : Dev nD) (b : ℕ) : Vec F S1x4096x3 .f32 := iblk m c 0 (pt (8 * b))
/-- The S-points of point `n`'s tile. -/
def tileS (c : Dev nD) (n : ℕ) : Vec F S3x4096 .f32 := iblk m c 1 (pt n)
/-- The densities of point `n`'s tile. -/
def tileAt (c : Dev nD) (n : ℕ) : FVec F S1x1x4096 .f32 :=
  tile (k0_pay4 (batchT m c (n / 8))) (tileS m c n) (setA (batchT m c (n / 8)))
/-- The row of densities of batch `b`. -/
def rowOf (c : Dev nD) (b : ℕ) : Vec F S1x1x32768 .f32 := fun y =>
  tileAt m c (8 * b + (y 2).val / 4096) (fun a => ⟨((![0, 0, (y 2).val % 4096] : Fin 3 → ℕ) a), by
    fin_cases a
    · exact Nat.one_pos
    · exact Nat.one_pos
    · exact Nat.mod_lt _ (by norm_num)⟩)

/-- The contents the output window may hold after the body at point `n`. -/
def rowRel (c : Dev nD) (n : ℕ) (X : Vec F S1x1x32768 .f32) : Prop :=
  if n % 8 = 7 then X = k0_pay2 (rowOf m c (n / 8))
  else ∀ y : S1x1x32768.Idx, (y 2).val < 4096 * (n % 8 + 1) → X y = rowOf m c (n / 8) y

/-- Storing a tile extends the prefix of the row that is known by 4096 entries. -/
theorem prefix_step (c : Dev nD) (t : Fin cfg0.N) (X Y : Vec F S1x1x32768 .f32)
    (hS : Stored (grid0.coords t) (tileAt m c t.val) X Y)
    (hX : ∀ y : S1x1x32768.Idx, (y 2).val < 4096 * (t.val % 8) → X y = rowOf m c (t.val / 8) y) :
    ∀ y : S1x1x32768.Idx, (y 2).val < 4096 * (t.val % 8 + 1) → Y y = rowOf m c (t.val / 8) y := by
  intro y hy
  have hoff := tile_off t
  by_cases hlt : (y 2).val < 4096 * (t.val % 8)
  · rw [hS.2 y ?_, hX y hlt]
    rw [Rect.mem_set_unit]
    intro hall
    have h2 := (hall 2).1
    rw [hoff] at h2
    exact absurd (show 4096 * (t.val % 8) ≤ (y 2).val from h2) (by omega)
  · have hdiv : (y 2).val / 4096 = t.val % 8 := by omega
    have hmod : (y 2).val % 4096 = (y 2).val - 4096 * (t.val % 8) := by omega
    have hy0 : (y 0).val = 0 := Nat.lt_one_iff.mp (y 0).isLt
    have hy1 : (y 1).val = 0 := Nat.lt_one_iff.mp (y 1).isLt
    let x : S1x1x4096.Idx := fun a => ⟨((![0, 0, (y 2).val % 4096] : Fin 3 → ℕ) a), by
      fin_cases a
      · exact Nat.one_pos
      · exact Nat.one_pos
      · exact Nat.mod_lt _ (by norm_num)⟩
    have he : (tileRect (grid0.coords t)).emb x = y := by
      funext a
      apply Fin.ext
      show k0_off1 (grid0.coords t) a + 1 * (x a).val = (y a).val
      rw [hoff]
      fin_cases a
      · show 0 + 1 * 0 = (y 0).val; omega
      · show 0 + 1 * 0 = (y 1).val; omega
      · show 4096 * (t.val % 8) + 1 * ((y 2).val % 4096) = (y 2).val; omega
    have h1 : Y y = tileAt m c t.val x := by rw [← hS.1 x, he]
    rw [h1]
    unfold rowOf
    rw [hdiv, Nat.div_add_mod]

/-! ## The proof data -/

/-- The scratch buffers as the pipeline's invariant holds them: at some contents between batches, at the batch's own within one. -/
def inv (c : Dev nD) (n : ℕ) : sProp 𝕄 :=
  if n % 8 = 0 then Pipeline.ΦA spec0 c
  else iprop(iprop(owns (c : Thread nD τ) (Memref.whole cc0_scratch1) fullShare (setA (batchT m c (n / 8)))
      ∗ owns (c : Thread nD τ) (Memref.whole cc0_scratch0) fullShare (fun _ => k0_pay4 (batchT m c (n / 8)))) ∗ (∃ r, prngReg c r))

/-- The invariant between batches, the scratch buffers as memrefs. -/
theorem PhiA_owns (c : Dev nD) :
    (Pipeline.ΦA spec0 c : sProp 𝕄)
      = iprop(iprop((∃ d, owns (c : Thread nD τ) (Memref.whole cc0_scratch1) fullShare d)
          ∗ (∃ d, owns (c : Thread nD τ) (Memref.whole cc0_scratch0) fullShare d)) ∗ (∃ r, prngReg c r)) := by
  unfold Pipeline.ΦA; rw [scopedRest0_eq]; simp only [owns_whole]; try rfl

/-- The proof data: the arrays as the region finds them, the inputs' buffers at their blocks, the invariant above. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := inv m c t.val
  q _ := fullShare
  owed _ := 0

/-- The output window is the one said by a relation, -/
def marked : Fin 3 → Bool := fun w => w.val == 2

/-- namely `rowRel`. -/
def rel (c : Dev nD) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun X => rowRel m c t.val X

theorem dats_A (c : Dev nD) (w : Fin cfg0.W) : (dats m c).A w = V m c (Pipeline.arrRef spec0 w) := by dsimp only [dats]
theorem after_T (c : Dev nD) (t : Fin cfg0.N) : (dats m c).after 0 t = iblk m c 0 t := by dsimp only [dats]
theorem after_S (c : Dev nD) (t : Fin cfg0.N) : (dats m c).after 1 t = iblk m c 1 t := by dsimp only [dats]
theorem before_T (c : Dev nD) (t : Fin cfg0.N) (d) : (dats m c).before 0 t d = iblk m c 0 t :=
  before0_0_of m (dats m c) (dats_A m c 0) (after_T m c) t d
theorem before_S (c : Dev nD) (t : Fin cfg0.N) (d) : (dats m c).before 1 t d = iblk m c 1 t :=
  before0_1_of m (dats m c) (dats_A m c 1) (after_S m c) t d

/-- What the body finds in the output window inside a batch: the prefix the tile before left. -/
theorem finds_prefix (c : Dev nD) (t : Fin cfg0.N) (h0 : t.val % 8 ≠ 0) (Y : Vec F S1x1x32768 .f32)
    (hY : ((dats m c).toRRel marked (rel m c)).Finds 2 t Y) :
    ∀ y : S1x1x32768.Idx, (y 2).val < 4096 * (t.val % 8) → Y y = rowOf m c (t.val / 8) y := by
  rw [Pipeline.RDat.finds_of_pos _ ((cfg0.win 2).fetch_out rfl t) (by omega)] at hY
  have hfl : (cfg0.win 2).flush ⟨t.val - 1, Nat.lt_of_le_of_lt (Nat.sub_le _ _) t.isLt⟩ ≠ true := fun h => by
    have := (flush0_2 ⟨t.val - 1, Nat.lt_of_le_of_lt (Nat.sub_le _ _) t.isLt⟩).mp h
    simp only at this
    omega
  have hR := (dats m c).toRRel_leaves (w := 2) rfl (hY.resolve_left hfl)
  have hR' : rowRel m c (t.val - 1) Y := hR
  unfold rowRel at hR'
  rw [if_neg (by omega)] at hR'
  intro y hy
  rw [hR' y (by omega), show (t.val - 1) / 8 = t.val / 8 by omega]

/-- Inside a batch the inputs' blocks are the batch's and the tile's. -/
theorem batchT_point (c : Dev nD) (t : Fin cfg0.N) (h0 : t.val % 8 = 0) : batchT m c (t.val / 8) = iblk m c 0 t := by
  unfold batchT
  rw [show 8 * (t.val / 8) = t.val by omega, pt_val]
theorem tileS_point (c : Dev nD) (t : Fin cfg0.N) : tileS m c t.val = iblk m c 1 t := by
  unfold tileS; rw [pt_val]

/-- After a tile that is not the last the relation is the prefix, -/
theorem rowRel_inner (c : Dev nD) (t : Fin cfg0.N) (h7 : t.val % 8 ≠ 7) (Y : Vec F S1x1x32768 .f32)
    (h : ∀ y : S1x1x32768.Idx, (y 2).val < 4096 * (t.val % 8 + 1) → Y y = rowOf m c (t.val / 8) y) : rowRel m c t.val Y := by
  unfold rowRel; rw [if_neg h7]; exact h

/-- and after the last it is the whole row, normalised. -/
theorem rowRel_last (c : Dev nD) (t : Fin cfg0.N) (h7 : t.val % 8 = 7) (Y : Vec F S1x1x32768 .f32)
    (h : ∀ y : S1x1x32768.Idx, (y 2).val < 4096 * (t.val % 8 + 1) → Y y = rowOf m c (t.val / 8) y) : rowRel m c t.val (k0_pay2 Y) := by
  unfold rowRel; rw [if_pos h7]
  refine congrArg k0_pay2 (funext fun y => h y ?_)
  have : (y 2).val < 32768 := (y 2).isLt
  omega

/-- The invariant at a batch's start, and inside one. -/
theorem inv_start (c : Dev nD) (n : ℕ) (h : n % 8 = 0) : (inv m c n : sProp 𝕄) = Pipeline.ΦA spec0 c := by
  unfold inv; rw [if_pos h]
theorem inv_inside (c : Dev nD) (n : ℕ) (h : n % 8 ≠ 0) : (inv m c n : sProp 𝕄)
    = iprop(iprop(owns (c : Thread nD τ) (Memref.whole cc0_scratch1) fullShare (setA (batchT m c (n / 8)))
      ∗ owns (c : Thread nD τ) (Memref.whole cc0_scratch0) fullShare (fun _ => k0_pay4 (batchT m c (n / 8)))) ∗ (∃ r, prngReg c r)) := by
  unfold inv; rw [if_neg h]

/-! ## The body obligation -/

/-- What the body is called with at point `t`, -/
def bodyPre (c : Dev nD) (t : Fin cfg0.N) : sProp 𝕄 :=
  iprop(inv m c t.val ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ Y, ⌜((dats m c).toRRel marked (rel m c)).Finds 2 t Y⌝ ∗ owns (c : Thread nD τ) (st0_2 t) fullShare Y))

/-- and what it returns. -/
def bodyPost (c : Dev nD) (t : Fin cfg0.N) : sProp 𝕄 :=
  iprop(inv m c (t.val + 1) ∗ (dats m c).owesAt () t.succ
    ∗ owns (c : Thread nD τ) (st0_0 t) fullShare ((dats m c).after 0 t)
    ∗ owns (c : Thread nD τ) (st0_1 t) fullShare ((dats m c).after 1 t)
    ∗ (∃ X, ⌜rel m c 2 t X⌝ ∗ owns (c : Thread nD τ) (st0_2 t) fullShare X))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_T, before_S, after_T, after_S, body_eq, wp_bind]
  rw [show (dats m c).owesAt () t.succ = (dats m c).owesAt () t.castSucc from rfl]
  by_cases h0 : t.val % 8 = 0
  · have h7 : t.val % 8 ≠ 7 := by omega
    rw [inv_start m c t.val h0, PhiA_owns, inv_inside m c (t.val + 1) (by omega), show (t.val + 1) / 8 = t.val / 8 by omega,
      batchT_point m c t h0]
    iintro ⟨⟨⟨HS1, HS0⟩, Hg⟩, Ho, ⟨%d0, H0⟩, ⟨%d1, H1⟩, ⟨%Y, %hY, H2⟩⟩
    iapply (setup_first c (grid0.coords t) _ _ _ _ _ _ _ _ _ _ ((isFirst_iff t).mpr h0) (iblk m c 0 t) Set.univ _)
    isplitl [H0]; · iexact H0
    isplitl [HS0]; · iexact HS0
    isplitl [HS1]; · iexact HS1
    iintro ⟨H0, HS0, HS1⟩
    iapply (rest_inner c (grid0.coords t) _ _ _ _ _ _ _ _ _ _ (fun h => h7 ((isLast_iff t).mp h)) (iblk m c 1 t) Y
      (k0_pay4 (iblk m c 0 t)) (setA (iblk m c 0 t)) Set.univ _)
    isplitl [H1]; · iexact H1
    isplitl [H2]; · iexact H2
    isplitl [HS0]; · iexact HS0
    isplitl [HS1]; · iexact HS1
    iintro ⟨H1, ⟨%X, %hX, H2⟩, HS0, HS1⟩
    isplitl [HS1 HS0 Hg]
    · isplitl [HS1 HS0]
      · isplitl [HS1]
        · iexact HS1
        iexact HS0
      iexact Hg
    isplitl [Ho]; · iexact Ho
    isplitl [H0]; · iexact H0
    isplitl [H1]; · iexact H1
    iexists X; isplitr
    · ipureintro
      refine rowRel_inner m c t h7 X (prefix_step m c t Y X ?_ fun y hy => absurd hy (by omega))
      unfold tileAt; rw [batchT_point m c t h0, tileS_point]; exact hX
    iexact H2
  · rw [inv_inside m c t.val h0]
    by_cases h7 : t.val % 8 = 7
    · rw [inv_start m c (t.val + 1) (by omega), PhiA_owns]
      iintro ⟨⟨⟨HS1, HS0⟩, Hg⟩, Ho, ⟨%d0, H0⟩, ⟨%d1, H1⟩, ⟨%Y, %hY, H2⟩⟩
      iapply (setup_later c (grid0.coords t) _ _ _ _ _ _ _ _ _ _ (fun h => h0 ((isFirst_iff t).mp h)) Set.univ _)
      iapply (rest_last c (grid0.coords t) _ _ _ _ _ _ _ _ _ _ ((isLast_iff t).mpr h7) (iblk m c 1 t) Y
        (k0_pay4 (batchT m c (t.val / 8))) (setA (batchT m c (t.val / 8))) Set.univ _)
      isplitl [H1]; · iexact H1
      isplitl [H2]; · iexact H2
      isplitl [HS0]; · iexact HS0
      isplitl [HS1]; · iexact HS1
      iintro ⟨H1, ⟨%X, %hX, H2⟩, HS0, HS1⟩
      isplitl [HS1 HS0 Hg]
      · isplitl [HS1 HS0]
        · isplitl [HS1]
          · iexists _; iexact HS1
          iexists _; iexact HS0
        iexact Hg
      isplitl [Ho]; · iexact Ho
      isplitl [H0]; · iexact H0
      isplitl [H1]; · iexact H1
      iexists (k0_pay2 X); isplitr
      · ipureintro
        refine rowRel_last m c t h7 X (prefix_step m c t Y X ?_ (finds_prefix m c t h0 Y hY))
        unfold tileAt; rw [tileS_point]; exact hX
      iexact H2
    · rw [inv_inside m c (t.val + 1) (by omega), show (t.val + 1) / 8 = t.val / 8 by omega]
      iintro ⟨⟨⟨HS1, HS0⟩, Hg⟩, Ho, ⟨%d0, H0⟩, ⟨%d1, H1⟩, ⟨%Y, %hY, H2⟩⟩
      iapply (setup_later c (grid0.coords t) _ _ _ _ _ _ _ _ _ _ (fun h => h0 ((isFirst_iff t).mp h)) Set.univ _)
      iapply (rest_inner c (grid0.coords t) _ _ _ _ _ _ _ _ _ _ (fun h => h7 ((isLast_iff t).mp h)) (iblk m c 1 t) Y
        (k0_pay4 (batchT m c (t.val / 8))) (setA (batchT m c (t.val / 8))) Set.univ _)
      isplitl [H1]; · iexact H1
      isplitl [H2]; · iexact H2
      isplitl [HS0]; · iexact HS0
      isplitl [HS1]; · iexact HS1
      iintro ⟨H1, ⟨%X, %hX, H2⟩, HS0, HS1⟩
      isplitl [HS1 HS0 Hg]
      · isplitl [HS1 HS0]
        · isplitl [HS1]
          · iexact HS1
          iexact HS0
        iexact Hg
      isplitl [Ho]; · iexact Ho
      isplitl [H0]; · iexact H0
      isplitl [H1]; · iexact H1
      iexists X; isplitr
      · ipureintro
        refine rowRel_inner m c t h7 X (prefix_step m c t Y X ?_ (finds_prefix m c t h0 Y hY))
        unfold tileAt; rw [tileS_point]; exact hX
      iexact H2

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligationRel (dats (F := F) m c) (defs₀ (F := F)) Variants.none () Set.univ marked (rel m c) := fun t => by
  rw [bigSep_W0, bigSep_W0, defs₀_row]
  exact triple_restated (sound_body m c t) rfl .rfl fun _ => .rfl

end Cert.KernelIdeal.Hist

end
-- ==== Proof.Lines.lean ====
/- The run of a program made of one pipelined region and host lines after it, when the region's output
   arrays are known only through a relation: at the end every buffer that is no window's array holds what
   the lines compute from SOME contents the arrays may hold. -/
module

public import Idealize.ShloMosaic.Lib.Pipeline.FrameSuffix

@[expose] public section

noncomputable section

namespace Cert.Lines

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.TcCoe Idealize.ShloMosaic.Pipeline Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- Owning every window's array at some contents it may hold at the end is owning them all at one choice of such contents. -/
theorem arraysAt_choice {cfg : Cfg sig Λ₀} {c : Dev nD} (rd : RDat τ Val Unit ℕ (UR sig nD τ) ℕ cfg c) :
    (rd.arraysAt cfg.N : sProp 𝕄) ⊢ iprop(∃ A, ⌜∀ w, rd.ArrAt w cfg.N (A w)⌝ ∗ rd.arrays A) := by
  unfold RDat.arraysAt
  iintro H
  ihave H := (BI.bigSep_exists_pi Finset.univ (fun w G => iprop(⌜rd.ArrAt w cfg.N G⌝
    ∗ (cfg.win w).arr.view.loc (c.tc : Thread nD τ) ↦[(cfg.win w).arr.view.set]{rd.share w} G))) $$ H
  icases H with ⟨%A, H⟩
  ihave H := (BI.bigSep_pure_sep Finset.univ (fun w => rd.ArrAt w cfg.N (A w))
    (fun w => (cfg.win w).arr.view.loc (c.tc : Thread nD τ) ↦[(cfg.win w).arr.view.set]{rd.share w} A w)) $$ H
  icases H with ⟨%h, H⟩
  iexists A
  isplitr
  · ipureintro; exact fun w => h w (Finset.mem_univ w)
  unfold RDat.arrays
  iexact H

theorem choice_arraysAt {cfg : Cfg sig Λ₀} {c : Dev nD} (rd : RDat τ Val Unit ℕ (UR sig nD τ) ℕ cfg c)
    (A : (w : Fin cfg.W) → Buf Val ((cfg.win w).arr.view.loc (c.tc : Thread nD τ))) (h : ∀ w, rd.ArrAt w cfg.N (A w)) :
    (rd.arrays A : sProp 𝕄) ⊢ rd.arraysAt cfg.N := by
  unfold RDat.arraysAt RDat.arrays
  refine BI.bigSep_mono fun w _ => ?_
  show ((cfg.win w).arr.view.loc (c.tc : Thread nD τ) ↦[(cfg.win w).arr.view.set]{rd.share w} A w : sProp 𝕄)
    ⊢ iprop(∃ G, ⌜rd.ArrAt w cfg.N G⌝ ∗ (cfg.win w).arr.view.loc (c.tc : Thread nD τ) ↦[(cfg.win w).arr.view.set]{rd.share w} G)
  iintro H
  iexists (A w)
  isplitr
  · ipureintro; exact h w
  iexact H

variable (cfgs : P → Cfg sig Λ₀) (p : P) (kit : LaunchFacts (nD := nD) (τ := τ) cfgs p)
  (defs₀ : Defs nD τ sig Val Λ₀) (𝒱₀ : Variants)

/-- What every final memory satisfies on core `c`: the windows' arrays hold contents the relation allows, and the other
    buffers hold what the lines leave when started from such contents. -/
def After (rdat : (c : Dev nD) → RDat τ Val Unit ℕ (UR sig nD τ) ℕ (cfgs p) c) (V₀ : Dev nD → Valuation τ sig Val)
    (opss : List (List (HloOp τ sig Val))) (c : Dev nD) (s : MemSt nD τ sig Val) : Prop :=
  (∀ w, (rdat c).ArrAt w (cfgs p).N (s.mem (((cfgs p).spec w).arr.view.loc (c.tc : Thread nD τ))))
  ∧ ∃ A : (w : Fin (cfgs p).W) → Buf Val (((cfgs p).win w).arr.view.loc (c.tc : Thread nD τ)), (∀ w, (rdat c).ArrAt w (cfgs p).N (A w))
    ∧ ∀ b ∈ restRefsP sig Prefetch.none (cfgs p).spec,
        s.mem ((c.tc : Thread nD τ).loc b) = StableHlo.after opss.flatten (withArrays (cfgs p).spec c (V₀ c) A) (Proc.devRef .tc b)

include kit in
theorem run_lines (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hin : ∀ c, ΦA (cfgs p).spec c ⊢ (rdat c).Φ 0) (hout : ∀ c, (rdat c).Φ (Fin.last (cfgs p).N) ⊢ ΦA (cfgs p).spec c) :
    θ_run (Pipeline.defs (fun q => Cfg.toPCfg (Val := Val) (cfgs q)) defs₀) (onTc main) (s₀ m g) (fun r => (∀ c, After cfgs p rdat V₀ opss c r.2) ∧ r.2.sem = fun _ => 0) := by
  have kit₀ := kit.toP.to₀ (Val := Val)
  have hq : ∀ c w, ((cfgs p).spec w).isOut = false → (rdat c).q w = shareOf (cfgs p).spec w :=
    fun c w hw => (rdat c).q_eq_shareOf_of_share_full kit.win.arr_inj (hshare c) w hw
  exact RDat.θ_run_region_pf_tail_quiescent (fun q => Cfg.toPCfg (Val := Val) (cfgs q)) (fun q => Cfg.toPCfg_adm (Val := Val) (cfgs q)) (RDat.familyOf (fun q => Cfg.toPCfg (Val := Val) (cfgs q)) (fun q => Cfg.toPCfg_adm (Val := Val) (cfgs q)) p rdat) () (kit₀.cellOf_inj (fun q => Cfg.toPCfg_adm (Val := Val) (cfgs q))) p kit₀.win (OwnSemFacts.none (cfgs p).spec) kit₀.pre
    emb₁ defs₀ 𝒱₀ m g main (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin (fun q => Cfg.toPCfg (Val := Val) (cfgs q)) (fun q => Cfg.toPCfg_adm (Val := Val) (cfgs q))) (kit₀.cellOf_inj (fun q => Cfg.toPCfg_adm (Val := Val) (cfgs q)))) (launchToks (pin (fun q => Cfg.toPCfg (Val := Val) (cfgs q)) (fun q => Cfg.toPCfg_adm (Val := Val) (cfgs q))) (kit₀.cellOf_inj (fun q => Cfg.toPCfg_adm (Val := Val) (cfgs q)))))
    (hu₀ := by
      iintro Hu; imodintro
      isplitl [Hu]
      · iapply (show (ownU _ : sProp 𝕄) ⊢ BI.own (emb₁ (initOf (cells (pin (fun q => Cfg.toPCfg (Val := Val) (cfgs q)) (fun q => Cfg.toPCfg_adm (Val := Val) (cfgs q))) (kit₀.cellOf_inj (fun q => Cfg.toPCfg_adm (Val := Val) (cfgs q)))) (launchToks (pin (fun q => Cfg.toPCfg (Val := Val) (cfgs q)) (fun q => Cfg.toPCfg_adm (Val := Val) (cfgs q))) (kit₀.cellOf_inj (fun q => Cfg.toPCfg_adm (Val := Val) (cfgs q)))))) from .rfl)
        iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => by rw [RDat.familyOf_self]; exact (rdat c).arrays_split_shared kit₀.sharedIn kit₀.arr_whole (hq c) _ _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => iprop(∃ A, ⌜∀ w, (rdat c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := fun c => by
      iintro ⟨HU, -, -, Hp, -⟩; imodintro
      isplitl [Hp]
      · iexists _; iexact Hp
      iexact HU)
    (hin := fun c => by
      rw [RDat.familyOf_self]
      refine Entails.trans ?_ (hin c)
      unfold ΦA
      iintro ⟨Hp, -, Hr⟩
      isplitl [Hr] <;> iassumption)
    (hout := fun c => by
      rw [RDat.familyOf_self]
      refine (hout c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha := (arraysAt_choice (rdat c)) $$ Ha
      icases Ha with ⟨%A, %h, Ha⟩
      have hB : (rdat c).arrays A = arrBufs (cfgs p).spec c (fun b => withArrays (cfgs p).spec c (V₀ c) A (Proc.devRef .tc b)) :=
        ((rdat c).arrBufs_eq_arrays kit₀.sharedIn kit₀.arr_whole (hq c) _ A fun w =>
          (withArrays_arr_shared (cfgs p).spec c (V₀ c) A ((rdat c).ArrAt_sharedIn kit₀.sharedIn (V₀ c) (hA c) (cfgs p).N A h) w).symm).symm
      iapply (tail_seqs_bufs_b (fun q => Cfg.toPCfg (Val := Val) (cfgs q)) defs₀ 𝒱₀ Prefetch.none (cfgs p).spec c (V₀ c) A opss hsub hfresh hkeep Q')
      isplitl [Hk]
      · iintro ⟨Hb, Ha, Hu⟩
        iapply Hk
        isplitl [Hb]; · iexact Hb
        isplitl [Ha]
        · iapply (choice_arraysAt (rdat c) A h)
          iapply (Entails.of_eq hB.symm)
          iexact Ha
        iexists A
        isplitr
        · ipureintro; exact h
        iexact Hu
      isplitl [Hb]; · iexact Hb
      isplitl [Ha]
      · iapply (Entails.of_eq hB); iexact Ha
      iexact HZ)
    (QY := fun c s => ∃ A : (w : Fin (cfgs p).W) → Buf Val (((cfgs p).win w).arr.view.loc (c.tc : Thread nD τ)), (∀ w, (rdat c).ArrAt w (cfgs p).N (A w))
      ∧ ∀ b ∈ restRefsP sig Prefetch.none (cfgs p).spec,
        s.mem ((c.tc : Thread nD τ).loc b) = StableHlo.after opss.flatten (withArrays (cfgs p).spec c (V₀ c) A) (Proc.devRef .tc b))
    (hY := fun c s' => by
      iintro ⟨-, HZ, HSI⟩
      icases HZ with ⟨%A, %h, HZ⟩
      unfold unscopedRestP
      ihave HZ := (pointsTo_read_all (restRefsP sig Prefetch.none (cfgs p).spec) (fun b => (c.tc : Thread nD τ).loc b)
        (fun b => StableHlo.after opss.flatten (withArrays (cfgs p).spec c (V₀ c) A) (Proc.devRef .tc b)) s') $$ [HZ HSI]
      · isplitl [HZ] <;> iassumption
      icases HZ with ⟨%hZ, HSI⟩
      imodintro
      isplitr
      · ipureintro; exact ⟨A, h, hZ⟩
      iexact HSI)
    (hQ := fun s h hz => ⟨fun c => ⟨fun w => by simpa only [RDat.familyOf_self] using (h c).1 w, (h c).2.2⟩, hz⟩)

end Cert.Lines

end
-- ==== Proof.Run.lean ====
module

public import proofs.«01_k».proof.Proof.Steps
public import proofs.«01_k».proof.Proof.Lines
public import Idealize.ShloMosaic.Lib.Pipeline.ValueKit

/-! The whole run of the kernel's program: it ends quiescent with its arguments unchanged, and its result is the reshape of
the array whose row `b` is the normalised row of densities of batch `b`. -/

@[expose] public section

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data with the output window said by the relation. -/
def rdats (c : Dev nD) : RDat τ (Elt F) Unit ℕ (UR sig nD τ) ℕ (cfgs 0) c := (dats m c).toRRel marked (rel m c)

set_option backward.isDefEq.respectTransparency.types false in
set_option maxHeartbeats 800000 in
theorem run_main : θ_run defs (onTc (τ := τ) (main (F := F))) (s₀ m ρ)
    (fun r => (∀ c, Lines.After cfgs (0 : Fin 1) (rdats m) (V0 m) [hostOps1] c r.2) ∧ r.2.sem = fun _ => 0) :=
  Lines.run_lines cfgs (0 : Fin 1) launch0 defs₀ Variants.none (rdats m) m ρ main
    (hbody := fun c => (body_obligation m c).toRRel) (hshare := fun c => (dats m c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl)
    (hin := fun c => by
      show Pipeline.ΦA spec0 c ⊢ inv m c 0
      rw [inv_start m c 0 rfl])
    (hout := fun c => by
      show inv m c (Fin.last cfg0.N).val ⊢ Pipeline.ΦA spec0 c
      rw [inv_start m c _ (by show grid0.N % 8 = 0; rw [N_0])])

/-- The array the region writes: row `b` is the normalised row of batch `b`. -/
def outArr (c : Dev nD) : Vec F S4x1x32768 .f32 := fun i =>
  k0_pay2 (rowOf m c (i 0).val) (fun a => ⟨((![0, 0, (i 2).val] : Fin 3 → ℕ) a), by
    fin_cases a
    · exact Nat.one_pos
    · exact Nat.one_pos
    · exact (i 2).isLt⟩)

/-- The result: that array without its axis of extent one. -/
def result (c : Dev nD) : Vec F S4x32768 .f32 := shapeCast S4x32768 (outArr m c) shapeCasts_S4x1x32768_S4x32768

theorem outArr_at (c : Dev nD) (i : S4x1x32768.Idx) (b : ℕ) (y : S1x1x32768.Idx) (h0 : (i 0).val = b) (h2 : (i 2).val = (y 2).val) :
    outArr m c i = k0_pay2 (rowOf m c b) y := by
  subst h0
  unfold outArr
  refine congrArg _ (funext fun a => Fin.ext ?_)
  have hy0 : (y 0).val < 1 := (y 0).isLt
  have hy1 : (y 1).val < 1 := (y 1).isLt
  fin_cases a
  · show 0 = (y 0).val; omega
  · show 0 = (y 1).val; omega
  · exact h2

theorem out_index (t : Fin cfg0.N) : win0_2.index t = ![t.val / 8, 0, 0] := by
  funext a
  fin_cases a
  · show (BitVec.ofNat 32 (grid0.coords t 0).val).toNat = t.val / 8
    rw [coord_batch, BitVec.toNat_ofNat]
    have := point_lt t
    omega
  · rfl
  · rfl

/-- Contents the relation allows the written array are `outArr`. -/
theorem out_eq (c : Dev nD) (A : (w : Fin cfg0.W) → Buf (Elt F) ((cfg0.win w).arr.view.loc (c.tc : Thread nD τ)))
    (h : ∀ w, (rdats m c).ArrAt w cfg0.N (A w)) : A 2 = outArr m c := by
  obtain ⟨after, hL, hA⟩ := RDat.ArrAt.exists_exact_all h
  rw [hA 2]
  refine ((rdats m c).withAfter after).arrAt_eq_of_covers 2 _ (by decide +kernel) fun t hf y => ?_
  have hX : rowRel m c t.val (after 2 t) := (dats m c).toRRel_leaves (w := 2) rfl (hL 2 t t.isLt hf)
  have h7 : t.val % 8 = 7 := (flush0_2 t).mp hf
  unfold rowRel at hX
  rw [if_pos h7] at hX
  have he : after 2 t = k0_pay2 (rowOf m c (t.val / 8)) := hX
  have e0 : ((((cfg0.win 2).blk t).view.emb y) 0).val = t.val / 8 := by
    blk_simp [out_index t]
  have e2 : ((((cfg0.win 2).blk t).view.emb y) 2).val = (y 2).val := by
    blk_simp [out_index t]
  blk_simp
  show after 2 t y = _
  rw [he]
  exact (outArr_at m c _ _ y e0 e2).symm

/-- The lines after the region write no argument, -/
theorem after_arg1 (c : Dev nD) (A : (w : Fin cfg0.W) → Buf (Elt F) ((cfg0.win w).arr.view.loc (c.tc : Thread nD τ))) :
    StableHlo.after [hostOps1].flatten (Pipeline.withArrays spec0 c (V0 m c) A) (Proc.devRef .tc main_arg1) = m ((c : Thread nD τ).loc main_arg1) := by
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- and the result they write is the array reshaped. -/
theorem after_result (c : Dev nD) (A : (w : Fin cfg0.W) → Buf (Elt F) ((cfg0.win w).arr.view.loc (c.tc : Thread nD τ)))
    (h : ∀ w, (rdats m c).ArrAt w cfg0.N (A w)) :
    StableHlo.after [hostOps1].flatten (Pipeline.withArrays spec0 c (V0 m c) A) (Proc.devRef .tc main_v2) = result m c := by
  have hv : Pipeline.withArrays spec0 c (V0 m c) A (Proc.devRef .tc main_v1) = outArr m c :=
    (Pipeline.withArrays_arr spec0 launch0.win.arr_inj c (V0 m c) A 2).trans (out_eq m c A h)
  show StableHlo.after (hostOps1 (F := F)) _ _ = _
  rw [StableHlo.after_cons, StableHlo.after_nil, StableHlo.reshape_result, hv]
  rfl

/-- Every final memory: the result, and the arguments unchanged. -/
theorem run_result : θ_run defs (onTc (τ := τ) (main (F := F))) (s₀ m ρ) (fun r => (∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ?_, h.2⟩) (run_main m ρ)
  obtain ⟨harr, A, hA, hrest⟩ := h.1 c
  refine ⟨(hrest main_v2 (by decide)).trans (after_result m c A hA), ?_,
    (hrest main_arg1 (by decide)).trans (after_arg1 m c A)⟩
  have h0 := harr 0
  rw [RDat.ArrAt_in _ 0 rfl] at h0
  exact h0.trans (V_main_arg0 m c)

end Cert.KernelIdeal.Hist

end
-- ==== Proof.Printed.lean ====
module

public import proofs.«01_k».proof.Proof.Gen.Kernel
public import proofs.«01_k».proof.Proof.Run
public import Idealize.ShloMosaic.PureOps.BitExact

/-! The printed kernel is the idealized one with each named constant read as its word, so what is proved of the one at
every interpretation of floats holds of the other. -/

@[expose] public section

set_option maxRecDepth 16384

noncomputable section

namespace Cert.Printed

open Idealize.ShloMosaic Idealize.ShloMosaic.TcCoe Idealize.SL.Sem

/-- A named constant read as its word. -/
@[reducible] def words : Named Bits := ⟨fun _ _ {φ} bits => FloatOps.ofBits φ bits⟩

attribute [local instance] words
attribute [local instance] Cert.Kernel.Gen.facts Cert.KernelIdeal.Gen.facts

/-! Each part of the body, then the whole program. -/

theorem part1_eq : Cert.Kernel.k0_part1 (F := Bits) = Cert.KernelIdeal.k0_part1 (F := Bits) := rfl
theorem part2_eq : Cert.Kernel.k0_part2 (F := Bits) = Cert.KernelIdeal.k0_part2 (F := Bits) := rfl
theorem part3_eq : Cert.Kernel.k0_part3 (F := Bits) = Cert.KernelIdeal.k0_part3 (F := Bits) := rfl
theorem part4_eq : Cert.Kernel.k0_part4 (F := Bits) = Cert.KernelIdeal.k0_part4 (F := Bits) := rfl
theorem part5_eq : Cert.Kernel.k0_part5 (F := Bits) = Cert.KernelIdeal.k0_part5 (F := Bits) := rfl
theorem part6_eq : Cert.Kernel.k0_part6 (F := Bits) = Cert.KernelIdeal.k0_part6 (F := Bits) := rfl
theorem part7_eq : Cert.Kernel.k0_part7 (F := Bits) = Cert.KernelIdeal.k0_part7 (F := Bits) := rfl
theorem body_eq : Cert.Kernel.cc0__histogram_kernel (F := Bits) = Cert.KernelIdeal.cc0__histogram_kernel (F := Bits) := rfl
theorem main_eq : Cert.Kernel.main (F := Bits) = Cert.KernelIdeal.main (F := Bits) := rfl
theorem win_eq : Cert.Kernel.win0 = Cert.KernelIdeal.win0 := rfl
theorem cfg_eq : Cert.Kernel.cfg0 = Cert.KernelIdeal.cfg0 := rfl
theorem labels_eq : Cert.Kernel.Λ₀ = Cert.KernelIdeal.Λ₀ := rfl
theorem defs₀_eq : Cert.Kernel.defs₀ (F := Bits) = Cert.KernelIdeal.defs₀ (F := Bits) := by
  unfold Cert.Kernel.defs₀ Cert.KernelIdeal.defs₀
  refine congrArg Defs.onTc (funext fun ℓ => ?_)
  match ℓ with
  | ⟨0, _⟩ => exact funext fun x => rfl
theorem defs_eq : Cert.Kernel.defs (F := Bits) = Cert.KernelIdeal.defs (F := Bits) :=
  congrArg (Pipeline.defs Cert.KernelIdeal.pcfgs) defs₀_eq

/-- The printed kernel runs, and leaves its arguments and its semaphores as they were. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact (θ_run _ _ _).mono (fun _ h => ⟨fun c => (h.1 c).2, h.2⟩) (Cert.KernelIdeal.Hist.run_result (F := Bits) m g)

end Cert.Printed

end
-- ==== Proof.Density.lean ====
module

public import Idealize.ShloMosaic.PureOps.Ideal

/-! The mathematics of one density, on the extended reals.

A batch is a cloud of 4096 points `T v`, each of three coordinates, and `s` is one point at which the density is wanted.
The kernel works in powers of two, folds the factor of the exponent into the coordinates and gets the exponent as one
product of five terms; the reference takes the squared distance, divides it and exponentiates. This module defines both
and proves them equal for a finite `s`, whatever the cloud: a cloud with an infinite coordinate has an infinite
bandwidth, and then both densities are zero. -/

@[expose] public section

noncomputable section

namespace Cert.Density

open Idealize.ShloMosaic

/-! ## The bandwidth -/

/-- The mean of a coordinate over the cloud. -/
def mean (T : Fin 4096 → Fin 3 → EReal) (d : Fin 3) : EReal := Ideal.div (∑ v, T v d) ((4096 : ℝ) : EReal)

/-- The square of a coordinate's distance to its mean. -/
def dev2 (T : Fin 4096 → Fin 3 → EReal) (d : Fin 3) (v : Fin 4096) : EReal := (T v d - mean T d) * (T v d - mean T d)

/-- The standard deviation of a coordinate. -/
def spread (T : Fin 4096 → Fin 3 → EReal) (d : Fin 3) : EReal := Ideal.sqrt (Ideal.div (∑ v, dev2 T d v) ((4095 : ℝ) : EReal))

/-- The least bandwidth: the binary32 number next to one tenth. -/
abbrev least : ℝ := 13421773 / 134217728

/-- The bandwidth: the mean standard deviation, not below `least`. -/
def width (T : Fin 4096 → Fin 3 → EReal) : EReal := max (Ideal.div (∑ d, spread T d) ((3 : ℝ) : EReal)) ((least : ℝ) : EReal)

/-! ## One term of the density -/

/-- The factor of the exponent, for exponentials to base two. -/
abbrev factor : ℝ := -(((11695491 / 67108864) * (Real.log 2))⁻¹)

/-- The exponential of base two the kernel takes, the exponent a product of five terms. -/
def term2 (g : EReal) (t s : Fin 3 → EReal) : EReal :=
  Ideal.exp2 (((-2 : ℝ) : EReal) * Ideal.div ((factor : ℝ) : EReal) (g * g) * t 0 * s 0
    + ((-2 : ℝ) : EReal) * Ideal.div ((factor : ℝ) : EReal) (g * g) * t 1 * s 1
    + ((-2 : ℝ) : EReal) * Ideal.div ((factor : ℝ) : EReal) (g * g) * t 2 * s 2
    + Ideal.div ((factor : ℝ) : EReal) (g * g) * (∑ d, t d * t d) * 1
    + 1 * (Ideal.div ((factor : ℝ) : EReal) (g * g) * ∑ d, s d * s d))

/-- The exponential the reference takes, of the squared distance divided. -/
def termE (g : EReal) (t s : Fin 3 → EReal) : EReal :=
  Ideal.exp (Ideal.div (-((∑ d, s d * s d) + (∑ d, t d * t d) - ((2 : ℝ) : EReal) * ∑ d, t d * s d))
    (((11695491 / 67108864 : ℝ) : EReal) * (g * g)))

/-! ## The density -/

/-- The constant of the density: the binary32 number the reference multiplies by. -/
abbrev scale : ℝ := 10353263 / 4194304

/-- What is left of the squared norm of `s` after its rounding to the shorter format: nothing, on the extended reals. -/
def rest (g : EReal) (s : Fin 3 → EReal) : EReal :=
  Ideal.exp2 (Ideal.div ((factor : ℝ) : EReal) (g * g) * (∑ d, s d * s d) - Ideal.div ((factor : ℝ) : EReal) (g * g) * ∑ d, s d * s d)

/-- The density as the kernel computes it, the sum over the cloud taken 128 points at a time. -/
def kernelCell (T : Fin 4096 → Fin 3 → EReal) (s : Fin 3 → EReal) : EReal :=
  Ideal.div ((scale / 4096 : ℝ) : EReal) (width T * width T * width T) * rest (width T) s
    * ∑ c : Fin 32, ∑ v : Fin 128, term2 (width T) (T ⟨128 * c.val + v.val, by omega⟩) s

/-- The density as the reference computes it. -/
def refCell (T : Fin 4096 → Fin 3 → EReal) (s : Fin 3 → EReal) : EReal :=
  ((scale : ℝ) : EReal) * Ideal.pow (width T) ((-3 : ℝ) : EReal)
    * Ideal.div (∑ v, termE (width T) (T v) s) ((4096 : ℝ) : EReal)

/-! ## The cloud is finite where the bandwidth is -/

theorem square_infinite {x y : EReal} (h : ¬∃ r : ℝ, x = (r : EReal)) : (x - y) * (x - y) = ⊤ := by
  induction x using EReal.rec with
  | coe r => exact absurd ⟨r, rfl⟩ h
  | bot => induction y using EReal.rec <;> simp
  | top => induction y using EReal.rec <;> simp [sub_eq_add_neg]

theorem square_nonneg (x : EReal) : 0 ≤ x * x := by
  induction x using EReal.rec with
  | coe r => exact_mod_cast mul_self_nonneg r
  | bot => simp
  | top => simp

theorem sqrt_nonneg {x : EReal} (h : 0 ≤ x) : 0 ≤ Ideal.sqrt x := by
  induction x using EReal.rec with
  | coe r =>
    have hr : 0 ≤ r := by exact_mod_cast h
    rw [Ideal.sqrt_coe, if_neg (not_lt.mpr hr)]
    exact_mod_cast Real.sqrt_nonneg r
  | bot => exact absurd h (by simp)
  | top => simp

theorem sum_top {n : ℕ} (f : Fin n → EReal) (hf : ∀ i, 0 ≤ f i) (i : Fin n) (hi : f i = ⊤) : ∑ j, f j = ⊤ :=
  top_le_iff.mp (hi ▸ Finset.single_le_sum (fun j _ => hf j) (Finset.mem_univ i))

theorem div_pos_real (x : EReal) {y : ℝ} (hy : 0 < y) : Ideal.div x (y : EReal) = x * ((1 / y : ℝ) : EReal) :=
  Ideal.div_coe hy.ne' x

theorem div_top_real {y : ℝ} (hy : 0 < y) : Ideal.div ⊤ (y : EReal) = ⊤ := by
  rw [div_pos_real _ hy]
  exact EReal.top_mul_coe_of_pos (one_div_pos.mpr hy)

theorem div_nonneg_real {x : EReal} (hx : 0 ≤ x) {y : ℝ} (hy : 0 < y) : 0 ≤ Ideal.div x (y : EReal) := by
  rw [div_pos_real _ hy]
  exact mul_nonneg hx (by exact_mod_cast (one_div_pos.mpr hy).le)

theorem spread_nonneg (T : Fin 4096 → Fin 3 → EReal) (d : Fin 3) : 0 ≤ spread T d :=
  sqrt_nonneg (div_nonneg_real (Finset.sum_nonneg fun v _ => square_nonneg _) (by norm_num))

/-- A cloud with an infinite coordinate has an infinite bandwidth. -/
theorem width_top (T : Fin 4096 → Fin 3 → EReal) (v : Fin 4096) (d : Fin 3) (h : ¬∃ r : ℝ, T v d = (r : EReal)) : width T = ⊤ := by
  have h1 : ∑ u, dev2 T d u = ⊤ := sum_top _ (fun u => square_nonneg _) v (square_infinite h)
  have h2 : spread T d = ⊤ := by rw [spread, h1, div_top_real (by norm_num), Ideal.sqrt_top]
  have h3 : ∑ e, spread T e = ⊤ := sum_top _ (spread_nonneg T) d h2
  rw [width, h3, div_top_real (by norm_num)]
  exact max_eq_left le_top

/-- The bandwidth is a positive real or infinite. -/
theorem width_cases (T : Fin 4096 → Fin 3 → EReal) : width T = ⊤ ∨ ∃ r : ℝ, 0 < r ∧ width T = (r : EReal) := by
  have h : ((least : ℝ) : EReal) ≤ width T := le_max_right _ _
  generalize width T = w at h
  induction w using EReal.rec with
  | coe r => exact Or.inr ⟨r, lt_of_lt_of_le (by norm_num [least]) (EReal.coe_le_coe_iff.mp h), rfl⟩
  | bot => exact absurd (le_bot_iff.mp h) (EReal.coe_ne_bot _)
  | top => exact Or.inl rfl

/-! ## The two densities are equal -/

/-- On reals the two exponentials are the same. -/
theorem term_eq {r : ℝ} (hr : 0 < r) (t s : Fin 3 → ℝ) :
    ∃ e : ℝ, term2 (r : EReal) (fun d => (t d : EReal)) (fun d => (s d : EReal)) = (e : EReal)
      ∧ termE (r : EReal) (fun d => (t d : EReal)) (fun d => (s d : EReal)) = (e : EReal) := by
  have hl : Real.log 2 ≠ 0 := (Real.log_pos (by norm_num)).ne'
  have hr0 : r ≠ 0 := hr.ne'
  refine ⟨Real.exp (-((∑ d, s d * s d) + (∑ d, t d * t d) - 2 * ∑ d, t d * s d) * (1 / (11695491 / 67108864 * (r * r)))), ?_, ?_⟩
  · unfold term2
    simp only [Fin.sum_univ_three]
    rw [← EReal.coe_mul r r, div_pos_real _ (mul_pos hr hr), ← EReal.coe_one]
    simp only [← EReal.coe_mul, ← EReal.coe_add]
    rw [Ideal.exp2_coe]
    refine congrArg _ ?_
    rw [show ∀ x : ℝ, Real.rpow 2 x = Real.exp (Real.log 2 * x) from fun x => Real.rpow_def_of_pos (by norm_num) x]
    refine congrArg _ ?_
    unfold factor
    field_simp
    ring
  · unfold termE
    simp only [Fin.sum_univ_three]
    rw [← EReal.coe_mul r r, ← EReal.coe_mul _ (r * r), div_pos_real _ (by positivity)]
    simp only [← EReal.coe_mul, ← EReal.coe_add, ← EReal.coe_sub, ← EReal.coe_neg]
    rw [Ideal.exp_coe]

/-- A sum over 4096 points taken 128 at a time. -/
theorem sum_chunks (f : Fin 4096 → EReal) : ∑ c : Fin 32, ∑ v : Fin 128, f ⟨128 * c.val + v.val, by omega⟩ = ∑ v, f v := by
  rw [← Fintype.sum_prod_type' (f := fun (c : Fin 32) (v : Fin 128) => f ⟨128 * c.val + v.val, by omega⟩),
    ← Equiv.sum_comp (finProdFinEquiv (m := 32) (n := 128)) f]
  exact Finset.sum_congr rfl fun x _ => congrArg f (Fin.ext (Nat.add_comm _ _))

theorem coe_sum {n : ℕ} (f : Fin n → ℝ) : ∑ i, ((f i : ℝ) : EReal) = ((∑ i, f i : ℝ) : EReal) :=
  (map_sum (⟨⟨fun x : ℝ => (x : EReal), EReal.coe_zero⟩, EReal.coe_add⟩ : ℝ →+ EReal) f Finset.univ).symm

/-- The kernel's density is the reference's, at a finite point. -/
theorem cell_eq (T : Fin 4096 → Fin 3 → EReal) (s : Fin 3 → EReal) (hs : ∀ d, ∃ r : ℝ, s d = (r : EReal)) :
    kernelCell T s = refCell T s := by
  unfold kernelCell refCell
  rcases width_cases T with h | ⟨r, hr, h⟩
  · rw [h]
    simp [Ideal.div]
  have hT : ∀ v d, ∃ x : ℝ, T v d = (x : EReal) := by
    intro v d
    by_contra hc
    have := width_top T v d hc
    rw [h] at this
    exact EReal.coe_ne_top r this
  choose t ht using hT
  choose z hz using hs
  obtain rfl : T = fun v d => (t v d : EReal) := funext fun v => funext fun d => ht v d
  obtain rfl : s = fun d => (z d : EReal) := funext hz
  rw [h, sum_chunks (fun v => term2 (r : EReal) (fun d => (t v d : EReal)) (fun d => (z d : EReal)))]
  choose e he1 he2 using fun v => term_eq hr (t v) z
  simp only [he1, he2]
  have h1 : rest (r : EReal) (fun d => (z d : EReal)) = ((1 : ℝ) : EReal) := by
    unfold rest
    simp only [Fin.sum_univ_three]
    rw [← EReal.coe_mul r r, div_pos_real _ (mul_pos hr hr)]
    simp only [← EReal.coe_mul, ← EReal.coe_add, ← EReal.coe_sub, sub_self]
    rw [Ideal.exp2_coe]
    exact congrArg _ (Real.rpow_zero 2)
  have h3 : Real.rpow r (-3) = 1 / (r * r * r) := by
    show r ^ (-3 : ℝ) = _
    rw [Real.rpow_neg hr.le, show (3 : ℝ) = ((3 : ℕ) : ℝ) by norm_num, Real.rpow_natCast, one_div]
    ring
  rw [h1, coe_sum, ← EReal.coe_mul r r, ← EReal.coe_mul, div_pos_real _ (by positivity), div_pos_real _ (by norm_num),
    Ideal.pow_coe_coe, h3]
  simp only [← EReal.coe_mul]
  refine congrArg _ ?_
  ring

end Cert.Density

end
-- ==== Proof.Words.lean ====
module

public import Idealize.ShloMosaic.PureOps.Ideal
public import proofs.«01_k».proof.Proof.Density

/-! The literals of the two programs, as reals. -/

@[expose] public section

noncomputable section

namespace Cert.Words

open Idealize.ShloMosaic Cert.Density

theorem zero : Ideal.ofBits .f32 0x00000000#32 = 0 := by
  simp [Ideal.ofBits, Ideal.ieee]

theorem one : Ideal.ofBits .f32 0x3F800000#32 = 1 := by
  rw [← EReal.coe_one]
  simp [Ideal.ofBits, Ideal.ieee, -EReal.coe_mul, -EReal.coe_one]; norm_num

theorem two : Ideal.ofBits .f32 0x40000000#32 = ((2 : ℝ) : EReal) := by
  simp [Ideal.ofBits, Ideal.ieee, -EReal.coe_mul]; norm_num

theorem three : Ideal.ofBits .f32 0x40400000#32 = ((3 : ℝ) : EReal) := by
  simp [Ideal.ofBits, Ideal.ieee, -EReal.coe_mul]; norm_num

theorem neg_two : Ideal.ofBits .f32 0xC0000000#32 = ((-2 : ℝ) : EReal) := by
  simp [Ideal.ofBits, Ideal.ieee, -EReal.coe_mul]; norm_num

theorem neg_three : Ideal.ofBits .f32 0xC0400000#32 = ((-3 : ℝ) : EReal) := by
  simp [Ideal.ofBits, Ideal.ieee, -EReal.coe_mul]; norm_num

theorem count : Ideal.ofBits .f32 0x45800000#32 = ((4096 : ℝ) : EReal) := by
  simp [Ideal.ofBits, Ideal.ieee, -EReal.coe_mul]; norm_num

theorem count_pred : Ideal.ofBits .f32 0x457FF000#32 = ((4095 : ℝ) : EReal) := by
  simp [Ideal.ofBits, Ideal.ieee, -EReal.coe_mul]; norm_num

theorem least_word : Ideal.ofBits .f32 0x3DCCCCCD#32 = ((least : ℝ) : EReal) := by
  simp [Ideal.ofBits, Ideal.ieee, -EReal.coe_mul]; norm_num

theorem scale_word : Ideal.ofBits .f32 0x401DFA6F#32 = ((scale : ℝ) : EReal) := by
  simp [Ideal.ofBits, Ideal.ieee, -EReal.coe_mul]; norm_num

theorem scale_word_4096 : Ideal.ofBits .f32 0x3A1DFA6F#32 = ((scale / 4096 : ℝ) : EReal) := by
  simp [Ideal.ofBits, Ideal.ieee, -EReal.coe_mul]; norm_num

theorem weight_word : Ideal.ofBits .f32 0x3E327583#32 = ((11695491 / 67108864 : ℝ) : EReal) := by
  simp [Ideal.ofBits, Ideal.ieee, -EReal.coe_mul]; norm_num

/-- The least total a row is divided by. -/
abbrev floor : ℝ := 2748779 / 274877906944

theorem floor_word : Ideal.ofBits .f32 0x3727C5AC#32 = ((floor : ℝ) : EReal) := by
  simp [Ideal.ofBits, Ideal.ieee, -EReal.coe_mul]; norm_num

theorem infinity : Ideal.ofBits .f32 0x7F800000#32 = ⊤ := by
  simp [Ideal.ofBits, Ideal.ieee]

end Cert.Words

end
-- ==== Proof.Block.lean ====
module

public import proofs.«01_k».proof.Proof.Body
public import proofs.«01_k».proof.Proof.Words
public import Idealize.ShloMosaic.Lib.Pipeline.ValueKit

/-! What one tile of the kernel holds, on the extended reals: at each of its points the density `kernelCell`. -/

@[expose] public section

set_option maxRecDepth 16384

noncomputable section

namespace Cert.KernelIdeal.Hist

open Cert.KernelIdeal.Gen Cert.Density
open Idealize.ShloMosaic Idealize.ShloMosaic.TcCoe

/-- The kernel's named literal. -/
theorem named_factor : Named.named (F := Ideal) (φ := .f32) κ "cn_log2e" 0xC1047383#32 = ((factor : ℝ) : EReal) := by
  simp [Named.named, κ]

/-- The cloud of a batch. -/
def cloud (x : Vec Ideal S1x4096x3 .f32) : Fin 4096 → Fin 3 → EReal := fun v d => x (ix3 0 v d)

/-- The bandwidth the first branch stores. -/
theorem width_at (x : Vec Ideal S1x4096x3 .f32) : k0_pay4 x = width (cloud x) := by
  pointwise [k0_pay4, k0_pay3]
  simp only [Words.count, Words.count_pred, Words.three, Words.least_word, Fin.sum_univ_one]
  rfl

/-- The factor of the exponent. -/
theorem factor_at (x : Vec Ideal S1x4096x3 .f32) :
    k0_pay5 x = Ideal.div ((factor : ℝ) : EReal) (width (cloud x) * width (cloud x)) := by
  rw [← width_at, ← named_factor]; rfl

/-- The scaled T-coordinates, entry by entry. -/
theorem setA_at (x : Vec Ideal S1x4096x3 .f32) (v : Fin 4096) (k : Fin 5) : setA x (ix2 v k)
    = ![((-2 : ℝ) : EReal) * Ideal.div ((factor : ℝ) : EReal) (width (cloud x) * width (cloud x)) * cloud x v 0,
        ((-2 : ℝ) : EReal) * Ideal.div ((factor : ℝ) : EReal) (width (cloud x) * width (cloud x)) * cloud x v 1,
        ((-2 : ℝ) : EReal) * Ideal.div ((factor : ℝ) : EReal) (width (cloud x) * width (cloud x)) * cloud x v 2,
        Ideal.div ((factor : ℝ) : EReal) (width (cloud x) * width (cloud x)) * ∑ d, cloud x v d * cloud x v d, 1] k := by
  have h6 : ∀ (v : Fin 4096) (d : Fin 3), k0_pay6 x (ix2 v d)
      = ((-2 : ℝ) : EReal) * Ideal.div ((factor : ℝ) : EReal) (width (cloud x) * width (cloud x)) * cloud x v d := by
    intro v d
    pointwise [k0_pay6, k0_pay3]
    rw [Words.neg_two, factor_at]; rfl
  have h7 : ∀ (v : Fin 4096), k0_pay7 x (ix2 v 0)
      = Ideal.div ((factor : ℝ) : EReal) (width (cloud x) * width (cloud x)) * ∑ d, cloud x v d * cloud x v d := by
    intro v
    pointwise [k0_pay7, k0_pay3]
    rw [factor_at]; rfl
  fin_cases k
  · exact Eq.trans (congrArg (k0_pay6 x) (by ext a; fin_cases a <;> rfl)) (h6 v 0)
  · exact Eq.trans (congrArg (k0_pay6 x) (by ext a; fin_cases a <;> rfl)) (h6 v 1)
  · exact Eq.trans (congrArg (k0_pay6 x) (by ext a; fin_cases a <;> rfl)) (h6 v 2)
  · exact Eq.trans (congrArg (k0_pay7 x) (by ext a; fin_cases a <;> rfl)) (h7 v)
  · exact Words.one

/-- A load of 128 rows. -/
theorem rows_at (x : Vec Ideal S1x4096x3 .f32) (c : Fin 32) (v : Fin 128) (k : Fin 5) :
    rows (setA x) c (ix2 v k) = setA x (ix2 ⟨128 * c.val + v.val, by omega⟩ k) := by
  refine congrArg (setA x) ?_
  ext a
  fin_cases a
  · show 128 * c.val + 1 * v.val = 128 * c.val + v.val; omega
  · show 0 + 1 * k.val = k.val; omega

/-- The right operand of the product: coordinates, ones, the scaled squared norm. -/
theorem right_at (g : EReal) (x : Vec Ideal S3x4096 .f32) (k : Fin 5) (d : Fin 4096) :
    k0_pay13 (F := Ideal) g x (ix2 k d) = ![x (ix2 0 d), x (ix2 1 d), x (ix2 2 d), 1,
      Ideal.div ((factor : ℝ) : EReal) (g * g) * ∑ e, x (ix2 e d) * x (ix2 e d)] k := by
  pointwise [k0_pay13, k0_pay9, k0_pay11, k0_pay10]
  rw [named_factor]
  fin_cases k <;> rfl

/-- One chunk of 128 points: the exponentials of the five-term products, added up. -/
def chunk (r : FVec Ideal S5x4096 .f32) (a : Vec Ideal S128x5 .f32) : FVec Ideal S1x4096 .f32 :=
  shapeCast S1x4096 (k0_pay17 r a) shapeCasts_S4096_S1x4096

/-- A chunk, entry by entry. -/
theorem chunk_at (r : FVec Ideal S5x4096 .f32) (a : Vec Ideal S128x5 .f32) (d : Fin 4096) :
    chunk r a (ix2 0 d) = ∑ v : Fin 128, Ideal.exp2 (∑ k : Fin 5, a (ix2 v k) * r (ix2 k d)) := by
  pointwise [chunk, k0_pay17]
  rfl

/-- The accumulator is the sum of the chunks. -/
theorem accum_at (g : EReal) (s : Vec Ideal S3x4096 .f32) (a : Fin 32 → Vec Ideal S128x5 .f32) (i : S1x4096.Idx) :
    accum (F := Ideal) g s a i = ∑ c, chunk (k0_pay13 g s) (a c) i := by
  have h : accum (F := Ideal) g s a i = Ideal.ofBits .f32 0x00000000#32 + chunk (k0_pay13 g s) (a 0) i + chunk (k0_pay13 g s) (a 1) i + chunk (k0_pay13 g s) (a 2) i
    + chunk (k0_pay13 g s) (a 3) i + chunk (k0_pay13 g s) (a 4) i + chunk (k0_pay13 g s) (a 5) i + chunk (k0_pay13 g s) (a 6) i
    + chunk (k0_pay13 g s) (a 7) i + chunk (k0_pay13 g s) (a 8) i + chunk (k0_pay13 g s) (a 9) i + chunk (k0_pay13 g s) (a 10) i
    + chunk (k0_pay13 g s) (a 11) i + chunk (k0_pay13 g s) (a 12) i + chunk (k0_pay13 g s) (a 13) i + chunk (k0_pay13 g s) (a 14) i
    + chunk (k0_pay13 g s) (a 15) i + chunk (k0_pay13 g s) (a 16) i + chunk (k0_pay13 g s) (a 17) i + chunk (k0_pay13 g s) (a 18) i
    + chunk (k0_pay13 g s) (a 19) i + chunk (k0_pay13 g s) (a 20) i + chunk (k0_pay13 g s) (a 21) i + chunk (k0_pay13 g s) (a 22) i
    + chunk (k0_pay13 g s) (a 23) i + chunk (k0_pay13 g s) (a 24) i + chunk (k0_pay13 g s) (a 25) i + chunk (k0_pay13 g s) (a 26) i
    + chunk (k0_pay13 g s) (a 27) i + chunk (k0_pay13 g s) (a 28) i + chunk (k0_pay13 g s) (a 29) i + chunk (k0_pay13 g s) (a 30) i
    + chunk (k0_pay13 g s) (a 31) i := rfl
  rw [h, Words.zero, zero_add]
  generalize k0_pay13 (F := Ideal) g s = r
  simp only [Fin.sum_univ_castSucc, Fin.sum_univ_zero, zero_add]
  rfl

/-- A tile, entry by entry: the kernel's density of the batch's cloud at the tile's points. -/
theorem tile_at (x : Vec Ideal S1x4096x3 .f32) (s : Vec Ideal S3x4096 .f32) (d : Fin 4096) :
    tile (k0_pay4 x) s (setA x) (ix3 0 0 d) = kernelCell (cloud x) (fun e => s (ix2 e d)) := by
  rw [width_at]
  pointwise [tile, tileOf, k0_pay1, k0_pay26, k0_pay12, k0_pay25, k0_pay10, k0_pay11, k0_pay9]
  rw [named_factor, Words.scale_word_4096, accum_at]
  simp only [chunk_at, rows_at, setA_at, right_at, Fin.sum_univ_five]
  rfl

/-- A normalised row, entry by entry. -/
theorem norm_at (r : Vec Ideal S1x1x32768 .f32) (d : Fin 32768) :
    k0_pay2 r (ix3 0 0 d) = r (ix3 0 0 d) * Ideal.div 1 (max (∑ x, r (ix3 0 0 x)) ((Words.floor : ℝ) : EReal)) := by
  pointwise [k0_pay2]
  rw [Words.floor_word]

end Cert.KernelIdeal.Hist

end
-- ==== Proof.Array.lean ====
module

public import proofs.«01_k».proof.Proof.Run
public import proofs.«01_k».proof.Proof.Block

/-! The kernel's whole result on the extended reals, entry by entry: a batch's densities at all 32768 points, each
multiplied by the reciprocal of the batch's total. -/

@[expose] public section

set_option maxRecDepth 16384

noncomputable section

namespace Cert.KernelIdeal.Hist

open Cert.KernelIdeal.Gen Cert.Density
open Idealize.ShloMosaic Idealize.ShloMosaic.TcCoe

variable (m : (ℓ : Loc nD τ sig) → Buf (Elt Ideal) ℓ)

theorem in_index : ∀ t : Fin cfg0.N, win0_0.index t = ![t.val / 8, 0, 0] ∧ win0_1.index t = ![0, t.val % 8] :=
  (by decide +kernel : ∀ t : Fin grid0.N, _)

theorem pt_small {n : ℕ} (h : n < 32) : (pt n).val = n := Nat.mod_eq_of_lt h

/-- The cloud of batch `b` in an array of four clouds. -/
def cloudOf (x : FVec Ideal S4x4096x3 .f32) (b : Fin 4) : Fin 4096 → Fin 3 → EReal := fun v d => x (ix3 b v d)
/-- Point `p` of an array of points. -/
def pointOf (x : FVec Ideal S32768x3 .f32) (p : Fin 32768) : Fin 3 → EReal := fun d => x (ix2 p d)

/-- The first argument array. -/
abbrev argT (c : Dev nD) : FVec Ideal S4x4096x3 .f32 := m ((c : Thread nD τ).loc main_arg0)
/-- The second argument array. -/
abbrev argS (c : Dev nD) : FVec Ideal S32768x3 .f32 := m ((c : Thread nD τ).loc main_arg1)

theorem cloud_at (c : Dev nD) (b : Fin 4) : cloud (batchT m c b.val) = cloudOf (argT m c) b := by
  have hp : (pt (8 * b.val)).val = 8 * b.val := pt_small (by omega)
  funext v d
  unfold cloud cloudOf batchT argT
  have e := in_index (pt (8 * b.val))
  rw [hp, show 8 * b.val / 8 = b.val by omega] at e
  blk_ext [iblk, V, e]

/-- The transposed points, as the host stages them. -/
theorem staged (c : Dev nD) : V m c main_v0 = transpose S3x32768 [1, 0] (argS m c) transposes_S32768x3_S3x32768_1_0 := by
  show StableHlo.after ([hostOps0].flatten) (fun b => m (c, b)) (Proc.tc.devRef main_v0) = _
  simp only [hostOps0, List.flatten_cons, List.flatten_nil, List.append_nil]
  after_results_simp

theorem staged_at (c : Dev nD) (e : Fin 3) (p : Fin 32768) : (V m c main_v0 : FVec Ideal S3x32768 .f32) (ix2 e p) = argS m c (ix2 p e) := by
  rw [staged]
  pointwise []

theorem tileS_at (c : Dev nD) (n : ℕ) (hn : n < 32) (e : Fin 3) (d : Fin 4096) (p : Fin 32768) (hp : p.val = 4096 * (n % 8) + d.val) :
    tileS m c n (ix2 e d) = argS m c (ix2 p e) := by
  have hq : (pt n).val = n := pt_small hn
  rw [← staged_at]
  unfold tileS
  have f := in_index (pt n)
  rw [hq] at f
  blk_ext [iblk, f]

/-- A row of densities, entry by entry. -/
theorem rowOf_at (c : Dev nD) (b : Fin 4) (p : Fin 32768) :
    rowOf m c b.val (ix3 0 0 p) = kernelCell (cloudOf (argT m c) b) (pointOf (argS m c) p) := by
  have hp := p.isLt
  have hn : (8 * b.val + p.val / 4096) / 8 = b.val := by omega
  have h : rowOf m c b.val (ix3 0 0 p) = tileAt m c (8 * b.val + p.val / 4096) (ix3 0 0 ⟨p.val % 4096, Nat.mod_lt _ (by norm_num)⟩) := by
    unfold rowOf
    refine congrArg _ ?_
    ext a
    fin_cases a <;> rfl
  rw [h, tileAt, hn, tile_at, cloud_at]
  refine congrArg _ (funext fun e => ?_)
  exact tileS_at m c _ (by omega) e _ p (by show p.val = 4096 * ((8 * b.val + p.val / 4096) % 8) + p.val % 4096; omega)

/-- The result, entry by entry. -/
theorem result_at (c : Dev nD) (b : Fin 4) (p : Fin 32768) :
    result m c (ix2 b p) = kernelCell (cloudOf (argT m c) b) (pointOf (argS m c) p)
      * Ideal.div 1 (max (∑ q, kernelCell (cloudOf (argT m c) b) (pointOf (argS m c) q)) ((Words.floor : ℝ) : EReal)) := by
  have h : result m c (ix2 b p) = outArr m c (ix3 b 0 p) := by
    unfold result
    pointwise []
  rw [h, outArr_at m c (ix3 b 0 p) b.val (ix3 0 0 p) rfl rfl, norm_at]
  simp only [rowOf_at]

end Cert.KernelIdeal.Hist

end
-- ==== Proof.RefRun.lean ====
module

public import proofs.«01_k».proof.Proof.Gen.ReferenceIdeal.Run
public import proofs.«01_k».proof.Proof.Gen.ReferenceIdeal.Read
public import proofs.«01_k».proof.Proof.Words
public import Idealize.ShloMosaic.Lib.Pipeline.ValueKit

/-! The reference's result on the extended reals, entry by entry: a batch's densities `refCell` at all 32768 points, each
divided by the batch's total. -/

@[expose] public section

set_option maxRecDepth 16384

noncomputable section

namespace Cert.ReferenceIdeal.Hist

open Cert.ReferenceIdeal Cert.ReferenceIdeal.Gen Cert.ReferenceIdeal.Read Cert.Density
open Idealize.ShloMosaic Idealize.ShloMosaic.TcCoe

/-- The cloud of batch `b`. -/
def cloudOf (x : FVec Ideal S4x4096x3 .f32) (b : Fin 4) : Fin 4096 → Fin 3 → EReal := fun v d => x (ix3 b v d)
/-- Point `p` of the points. -/
def pointOf (x : FVec Ideal S32768x3 .f32) (p : Fin 32768) : Fin 3 → EReal := fun d => x (ix2 p d)

/-- The number of points less one. -/
theorem pred_at : val_main_call0_call0_v8 (F := Ideal) ix0 = ((4095 : ℝ) : EReal) := by
  have h1 : val_main_call0_call0_cst_1 (F := Ideal) ix0 = ((4096 : ℝ) : EReal) := Words.count
  have h2 : val_main_call0_call0_v7 (F := Ideal) ix0 = ((1 : ℝ) : EReal) := by
    show (((1#32 : BitVec 32).toInt : ℝ) : EReal) = _
    norm_num
  have h : val_main_call0_call0_v8 (F := Ideal) ix0
      = ((val_main_call0_call0_cst_1 (F := Ideal) ix0 : EReal) - (val_main_call0_call0_v7 (F := Ideal) ix0 : EReal) : EReal) := rfl
  rw [h, h1, h2, ← EReal.coe_sub]
  norm_num

/-- The bandwidth. -/
theorem width_at (x0 : FVec Ideal S4x4096x3 .f32) (b : Fin 4) : val_main_v4 (F := Ideal) x0 (ix1 b) = width (cloudOf x0 b) := by
  pointwise [val_main_v4, val_main_v3, val_main_v2, val_main_v1, val_main_v0, val_main_call0_v0, val_main_call1_v1,
    val_main_call1_v0, val_main_call0_call0_v0, val_main_call0_call0_v1, val_main_call0_call0_v2, val_main_call0_call0_v3,
    val_main_call0_call0_v4, val_main_call0_call0_v5, val_main_call0_call0_v6,
    val_main_call0_call0_v9, val_main_call0_call0_v10, val_main_call0_call0_v11,
    val_main_call0_call0_v12]
  have z1 : val_main_cst (F := Ideal) (Shape.Idx.first h_S_) = 0 := Words.zero
  have z2 : val_main_call0_call0_cst_2 (F := Ideal) (Shape.Idx.first h_S_) = 0 := Words.zero
  have z3 : val_main_call0_call0_cst (F := Ideal) (Shape.Idx.first h_S_) = 0 := Words.zero
  have z4 : val_main_call0_call0_cst_3 (F := Ideal) ix0 = 0 := Words.zero
  have z5 : val_main_call0_call0_cst_0 (F := Ideal) ix0 = ((4096 : ℝ) : EReal) := Words.count
  have z6 : val_main_cst_0 (F := Ideal) ix0 = ((3 : ℝ) : EReal) := Words.three
  have z7 : val_main_cst_1 (F := Ideal) ix0 = ((least : ℝ) : EReal) := Words.least_word
  have hp : (0 : EReal) < ((4095 : ℝ) : EReal) := by exact_mod_cast (by norm_num : (0 : ℝ) < 4095)
  simp only [pred_at, z1, z2, z3, z4, z5, z6, z7, zero_add, id, if_pos hp]
  rw [max_comm]
  rfl

/-- The densities before their normalisation. -/
theorem cell_at (x0 : FVec Ideal S4x4096x3 .f32) (x1 : FVec Ideal S32768x3 .f32) (b : Fin 4) (p : Fin 32768) :
    val_main_v36 (F := Ideal) x0 x1 (ix2 b p) = refCell (cloudOf x0 b) (pointOf x1 p) := by
  pointwise [val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5, val_main_cst_6]
  have z1 : val_main_cst_7 (F := Ideal) ix0 = ((scale : ℝ) : EReal) := Words.scale_word
  have z2 : val_main_cst_8 (F := Ideal) (Shape.Idx.first h_S_) = 0 := Words.zero
  have z3 : val_main_cst_2 (F := Ideal) (Shape.Idx.first h_S_) = 0 := Words.zero
  have z4 : val_main_cst_3 (F := Ideal) (Shape.Idx.first h_S_) = 0 := Words.zero
  have z5 : val_main_cst_4 (F := Ideal) ix0 = ((2 : ℝ) : EReal) := Words.two
  have z6 : val_main_cst_5 (F := Ideal) ix0 = ((11695491 / 67108864 : ℝ) : EReal) := Words.weight_word
  have z7 : val_main_cst_9 (F := Ideal) ix0 = ((4096 : ℝ) : EReal) := Words.count
  simp only [z1, z2, z3, z4, z5, z6, z7, zero_add, Words.neg_three, width_at]
  rfl

/-- The result. -/
theorem result_at (x0 : FVec Ideal S4x4096x3 .f32) (x1 : FVec Ideal S32768x3 .f32) (b : Fin 4) (p : Fin 32768) :
    val_main_v41 (F := Ideal) x0 x1 (ix2 b p) = Ideal.div (refCell (cloudOf x0 b) (pointOf x1 p))
      (max ((Words.floor : ℝ) : EReal) (∑ q, refCell (cloudOf x0 b) (pointOf x1 q))) := by
  pointwise [val_main_v41, val_main_v40, val_main_v39, val_main_v38, val_main_v37, val_main_call2_v1, val_main_call2_v0]
  have z1 : val_main_cst_10 (F := Ideal) (Shape.Idx.first h_S_) = 0 := Words.zero
  have z2 : val_main_cst_11 (F := Ideal) ix0 = ((Words.floor : ℝ) : EReal) := Words.floor_word
  simp only [z1, z2, zero_add, id, cell_at]

end Cert.ReferenceIdeal.Hist

end
-- ==== Proof.Finite.lean ====
module

public import proofs.«01_k».proof.Pre_s_finite
public import proofs.«01_k».proof.Proof.Words
public import Idealize.ShloMosaic.Lib.ReduceAll
public import Idealize.ShloMosaic.Lib.Pipeline.ValueKit

/-! The precondition read back: where it holds, every coordinate of every point is a real number. -/

@[expose] public section

noncomputable section

namespace Cert.Finite

open Idealize.ShloMosaic Cert.Pre_s_finite

/-- The shapes the precondition's operations take. -/
theorem facts : Cert.Pre_s_finite.Facts := ⟨by decide, by decide, by decide⟩

/-- An extended real whose absolute value is below infinity is a real number. -/
theorem real_of_abs {x : EReal} (h : max x (-x) < ⊤) : ∃ r : ℝ, x = (r : EReal) := by
  induction x using EReal.rec with
  | coe r => exact ⟨r, rfl⟩
  | bot => exact absurd h (by simp)
  | top => exact absurd h (by simp)

instance : Subsingleton S_.Idx := ⟨fun a b => funext fun d => d.elim0⟩

/-- The precondition makes every coordinate real. -/
theorem points [Cert.Pre_s_finite.Facts] (T : FVec Ideal S4x4096x3 .f32) (S : FVec Ideal S32768x3 .f32)
    (h : fn (F := Ideal) T S = fun _ => 1#1) (i : S32768x3.Idx) : ∃ r : ℝ, S i = (r : EReal) := by
  have h1 := Host.reduce_andi_all _ _ _ _ ix0 (congrFun h ix0) i
  refine real_of_abs ?_
  have h2 : Ideal.cmp .olt (max (S i) (-(S i))) (Ideal.ofBits .f32 0x7F800000#32) = 1#1 := h1
  rw [Words.infinity] at h2
  by_contra hn
  simp [Ideal.cmp, hn] at h2

end Cert.Finite

end
-- ==== Proof.Equation.lean ====
module

public import proofs.«01_k».proof.Proof.Array
public import proofs.«01_k».proof.Proof.RefRun
public import proofs.«01_k».proof.Proof.Finite

/-! The two results are one array: the densities agree point by point, so do a batch's totals, and a product with the
total's reciprocal is a quotient by the total. -/

@[expose] public section

noncomputable section

namespace Cert.Equation

open Idealize.ShloMosaic Cert.Density

/-- A product with the reciprocal of a total kept above the least one is the quotient by it. -/
theorem mul_reciprocal (x a : EReal) :
    x * Ideal.div 1 (max a ((Words.floor : ℝ) : EReal)) = Ideal.div x (max ((Words.floor : ℝ) : EReal) a) := by
  have hf : (0 : EReal) < ((Words.floor : ℝ) : EReal) := by exact_mod_cast (by norm_num [Words.floor] : (0 : ℝ) < Words.floor)
  have hd : max ((Words.floor : ℝ) : EReal) a ≠ 0 := (lt_of_lt_of_le hf (le_max_left _ _)).ne'
  rw [max_comm a]
  unfold Ideal.div
  rw [if_neg hd, if_neg hd, one_mul]

/-- The kernel's result is the reference's on finite points. -/
theorem result_eq [Cert.Pre_s_finite.Facts] (m : (ℓ : Loc Cert.KernelIdeal.nD Cert.KernelIdeal.τ Cert.KernelIdeal.sig) → Buf (Elt Ideal) ℓ)
    (c : Dev Cert.KernelIdeal.nD)
    (h : Cert.Pre_s_finite.fn (F := Ideal) (Cert.KernelIdeal.Hist.argT m c) (Cert.KernelIdeal.Hist.argS m c) = fun _ => 1#1) :
    Cert.ReferenceIdeal.Read.val_main_v41 (F := Ideal) (Cert.KernelIdeal.Hist.argT m c) (Cert.KernelIdeal.Hist.argS m c)
      = Cert.KernelIdeal.Hist.result m c := by
  have hc : ∀ b p, kernelCell (Cert.KernelIdeal.Hist.cloudOf (Cert.KernelIdeal.Hist.argT m c) b)
        (Cert.KernelIdeal.Hist.pointOf (Cert.KernelIdeal.Hist.argS m c) p)
      = refCell (Cert.ReferenceIdeal.Hist.cloudOf (Cert.KernelIdeal.Hist.argT m c) b)
        (Cert.ReferenceIdeal.Hist.pointOf (Cert.KernelIdeal.Hist.argS m c) p) :=
    fun b p => cell_eq _ _ fun d => Finite.points _ _ h (ix2 p d)
  funext i
  obtain ⟨b, p, rfl⟩ : ∃ b p, i = ix2 b p := ⟨i 0, i 1, eq_ix2 i⟩
  rw [Cert.ReferenceIdeal.Hist.result_at]
  refine Eq.trans ?_ (Cert.KernelIdeal.Hist.result_at m c b p).symm
  simp only [hc]
  exact (mul_reciprocal _ _).symm

end Cert.Equation

end
-- ==== Proof.lean ====
module

public import proofs.«01_k».proof.Defs
public import proofs.«01_k».proof.Proof.Gen.Kernel
public import proofs.«01_k».proof.Proof.Printed
public import proofs.«01_k».proof.Proof.Equation
public import Idealize.ShloMosaic.Adequacy
public import Idealize.ShloMosaic.Init

/-! The certificate: each conjunct of the claim from the module that proves it. -/

@[expose] public section

noncomputable section

namespace Cert.Proof

open Idealize.ShloMosaic Idealize.SL.Sem

/-- The kernel runs, and leaves its arguments and its semaphores as they were. -/
theorem kernel_frame : quiescent_Kernel (hKernel := Cert.Kernel.Gen.facts) :=
  fun m g _ => Printed.frame m g

/-- So does the idealized kernel. -/
theorem ideal_frame : quiescent_KernelIdeal (hKernelIdeal := Cert.KernelIdeal.Gen.facts) :=
  fun m g _ => (θ_run _ _ _).mono (fun _ h => ⟨fun c => (h.1 c).2, h.2⟩) (Cert.KernelIdeal.Hist.run_result m g)

/-- So does the idealized reference, which names no semaphore. -/
theorem reference_frame : quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The idealized kernel's result is the idealized reference's. -/
theorem value : algebraic_KernelIdeal_ReferenceIdeal_pre_s_finite (hKernelIdeal := Cert.KernelIdeal.Gen.facts)
    (hReferenceIdeal := Cert.ReferenceIdeal.Gen.facts) (hPre_s_finite := Finite.facts) := by
  intro m g m' g' hpre harg
  refine ⟨fun c => Cert.KernelIdeal.Hist.result m c,
    (θ_run _ _ _).mono (fun _ h => h.1) (Cert.KernelIdeal.Hist.run_result m g),
    (θ_run _ _ _).mono (fun _ h c => ⟨(h c).1.trans ?_, (h c).2⟩) (Cert.ReferenceIdeal.Value.run m' g')⟩
  rw [Cert.ReferenceIdeal.Read.val_main_v41_eq, (harg c).1, (harg c).2]
  exact @Equation.result_eq Finite.facts m c (hpre c)

theorem claim : Cert.Claim :=
  ⟨Cert.Kernel.Gen.facts, Cert.KernelIdeal.Gen.facts, Cert.ReferenceIdeal.Gen.facts, Finite.facts,
    kernel_frame, ideal_frame, fun m g _ => ideal_frame m g trivial, reference_frame,
    fun m g _ => reference_frame m g trivial, IdealRules.named_const.statement Cert.KernelIdeal.κ "cn_log2e" .f32 0xC1047383#32 _ rfl,
    value⟩

end Cert.Proof

end
